-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_rows_finite [hPre_in_rows_finite : Cert.Pre_in_rows_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_rows_finite [hPre_in_rows_finite : Cert.Pre_in_rows_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_rows_finite [hKernelIdeal : Cert.KernelIdeal.Facts] [hPre_in_rows_finite : Cert.Pre_in_rows_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_rows_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_rows_finite [hReferenceIdeal : Cert.ReferenceIdeal.Facts] [hPre_in_rows_finite : Cert.Pre_in_rows_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_rows_finite [hKernelIdeal : Cert.KernelIdeal.Facts] [hReferenceIdeal : Cert.ReferenceIdeal.Facts] [hPre_in_rows_finite : Cert.Pre_in_rows_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_rows_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_rows : Cert.Pre_in_rows.Facts) (hPre_in_rows_finite : Cert.Pre_in_rows_finite.Facts),
    quiescent_Kernel (hKernel := hKernel) (hPre_in_rows := hPre_in_rows)
    ∧ quiescent_KernelIdeal (hKernelIdeal := hKernelIdeal) (hPre_in_rows := hPre_in_rows)
    ∧ quiescent_KernelIdeal_pre_in_rows_finite (hKernelIdeal := hKernelIdeal) (hPre_in_rows_finite := hPre_in_rows_finite)
    ∧ quiescent_ReferenceIdeal (hReferenceIdeal := hReferenceIdeal)
    ∧ quiescent_ReferenceIdeal_pre_in_rows_finite (hReferenceIdeal := hReferenceIdeal) (hPre_in_rows_finite := hPre_in_rows_finite)
    ∧ preserves_Kernel_KernelIdeal
    ∧ algebraic_KernelIdeal_ReferenceIdeal_pre_in_rows_finite (hKernelIdeal := hKernelIdeal) (hReferenceIdeal := hReferenceIdeal) (hPre_in_rows_finite := hPre_in_rows_finite)
-- ==== Pre_in_rows.lean ====
abbrev S4096x200 : Shape := ⟨2, ![4096, 200]⟩
abbrev S100001x64 : Shape := ⟨2, ![100001, 64]⟩
abbrev S_ : Shape := ⟨0, ![]⟩

class Facts : Prop where
  bcast_S_S4096x200 : S_.BroadcastsInDim S4096x200 (![] : Fin 0 → Fin S4096x200.rank)

variable [Facts]

def fn {F : FTy → Type} [FloatOps F] (main_arg0 : IVec S4096x200 32) (main_arg1 : FVec F S4096x200 .f32) (main_arg2 : FVec F S4096x200 .f32) (main_arg3 : FVec F S100001x64 .f32) : IVec S4096x200 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .sle main_arg0 main_v2
  let main_v4 : IVec S4096x200 1 := andi main_v1 main_v3
  main_v4
-- ==== Pre_in_rows_finite.lean ====
abbrev S4096x200 : Shape := ⟨2, ![4096, 200]⟩
abbrev S100001x64 : Shape := ⟨2, ![100001, 64]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  bcast_S_S100001x64 : S_.BroadcastsInDim S100001x64 (![] : Fin 0 → Fin S100001x64.rank)
  reducesTo_S100001x64_S_d0_1 : S100001x64.ReducesTo [0, 1] S_

variable [Facts]

def fn {F : FTy → Type} [FloatOps F] (main_arg0 : IVec S4096x200 32) (main_arg1 : FVec F S4096x200 .f32) (main_arg2 : FVec F S4096x200 .f32) (main_arg3 : FVec F S100001x64 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .sle main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  let main_v6 : FVec F S4096x200 .f32 := Host.absf main_arg2
  let main_cst : FVec F S_ .f32 := constant S_ .f32 0x7F800000#32
  let main_v7 : FVec F S4096x200 .f32 := broadcastInDim S4096x200 ![] bcast_S_S4096x200 main_cst
  let main_v8 : IVec S4096x200 1 := cmpf .olt main_v6 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v5 main_v9
  let main_v11 : FVec F S100001x64 .f32 := Host.absf main_arg3
  let main_cst_3 : FVec F S_ .f32 := constant S_ .f32 0x7F800000#32
  let main_v12 : FVec F S100001x64 .f32 := broadcastInDim S100001x64 ![] bcast_S_S100001x64 main_cst_3
  let main_v13 : IVec S100001x64 1 := cmpf .olt main_v11 main_v12
  let main_c_4 : IVec S_ 1 := constantI S_ 1 1#1
  let main_v14 : IVec S_ 1 := (fun x v => Host.reduce IntOp.andi x v reducesTo_S100001x64_S_d0_1 h_S_) main_v13 main_c_4
  let main_v15 : IVec S_ 1 := andi main_v10 main_v14
  main_v15
-- ==== Kernel.lean ====
abbrev S4096x200 : Shape := ⟨2, ![4096, 200]⟩
abbrev S100001x64 : Shape := ⟨2, ![100001, 64]⟩
abbrev S_ : Shape := ⟨0, ![]⟩
abbrev S100352x128 : Shape := ⟨2, ![100352, 128]⟩
abbrev S2048x128 : Shape := ⟨2, ![2048, 128]⟩
abbrev S6400x128 : Shape := ⟨2, ![6400, 128]⟩
abbrev S1600x128 : Shape := ⟨2, ![1600, 128]⟩
abbrev S819200 : Shape := ⟨1, ![819200]⟩
abbrev S819200x128 : Shape := ⟨2, ![819200, 128]⟩
abbrev S800 : Shape := ⟨1, ![800]⟩
abbrev S2 : Shape := ⟨1, ![2]⟩
abbrev S2x400x128 : Shape := ⟨3, ![2, 400, 128]⟩
abbrev S400 : Shape := ⟨1, ![400]⟩
abbrev S1 : Shape := ⟨1, ![1]⟩
abbrev S1x400x128 : Shape := ⟨3, ![1, 400, 128]⟩
abbrev S400x128 : Shape := ⟨2, ![400, 128]⟩
abbrev S819200x1 : Shape := ⟨2, ![819200, 1]⟩
abbrev S2x409600x64 : Shape := ⟨3, ![2, 409600, 64]⟩
abbrev S3200x128 : Shape := ⟨2, ![3200, 128]⟩
abbrev S3200x1 : Shape := ⟨2, ![3200, 1]⟩
abbrev S2x3200x64 : Shape := ⟨3, ![2, 3200, 64]⟩
abbrev S3200x64 : Shape := ⟨2, ![3200, 64]⟩
abbrev S1x3200x64 : Shape := ⟨3, ![1, 3200, 64]⟩
abbrev S4096x200x64 : Shape := ⟨3, ![4096, 200, 64]⟩

abbrev nBuf : Table → Nat
  | .hbm => 18
  | .local .tc .vmem => 28
  | .local .scVector .vmem => 2
  | _ => 0

abbrev bufTy : (tb : Table) → Fin (nBuf tb) → BufTy
  | .hbm, ⟨0, _⟩ => ⟨S4096x200, .i32⟩
  | .hbm, ⟨1, _⟩ => ⟨S4096x200, .f32⟩
  | .hbm, ⟨2, _⟩ => ⟨S4096x200, .f32⟩
  | .hbm, ⟨3, _⟩ => ⟨S100001x64, .f32⟩
  | .hbm, ⟨4, _⟩ => ⟨S_, .i32⟩
  | .hbm, ⟨5, _⟩ => ⟨S_, .f32⟩
  | .hbm, ⟨6, _⟩ => ⟨S100352x128, .f32⟩
  | .hbm, ⟨7, _⟩ => ⟨S100352x128, .f32⟩
  | .hbm, ⟨8, _⟩ => ⟨S6400x128, .f32⟩
  | .hbm, ⟨9, _⟩ => ⟨S6400x128, .f32⟩
  | .hbm, ⟨10, _⟩ => ⟨S6400x128, .f32⟩
  | .hbm, ⟨11, _⟩ => ⟨S819200, .i32⟩
  | .hbm, ⟨12, _⟩ => ⟨S819200x128, .f32⟩
  | .hbm, ⟨13, _⟩ => ⟨S819200x1, .f32⟩
  | .hbm, ⟨14, _⟩ => ⟨S819200x1, .f32⟩
  | .hbm, ⟨15, _⟩ => ⟨S819200x1, .f32⟩
  | .hbm, ⟨16, _⟩ => ⟨S2x409600x64, .f32⟩
  | .hbm, ⟨17, _⟩ => ⟨S4096x200x64, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S1600x128, .f32⟩
  | .local .tc .vmem, ⟨5, _⟩ => ⟨S1600x128, .f32⟩
  | .local .tc .vmem, ⟨6, _⟩ => ⟨S1600x128, .f32⟩
  | .local .tc .vmem, ⟨7, _⟩ => ⟨S1600x128, .f32⟩
  | .local .tc .vmem, ⟨8, _⟩ => ⟨S1600x128, .f32⟩
  | .local .tc .vmem, ⟨9, _⟩ => ⟨S1600x128, .f32⟩
  | .local .tc .vmem, ⟨10, _⟩ => ⟨S3200x128, .f32⟩
  | .local .tc .vmem, ⟨11, _⟩ => ⟨S3200x128, .f32⟩
  | .local .tc .vmem, ⟨12, _⟩ => ⟨S3200x128, .f32⟩
  | .local .tc .vmem, ⟨13, _⟩ => ⟨S3200x128, .f32⟩
  | .local .tc .vmem, ⟨14, _⟩ => ⟨S3200x1, .f32⟩
  | .local .tc .vmem, ⟨15, _⟩ => ⟨S3200x1, .f32⟩
  | .local .tc .vmem, ⟨16, _⟩ => ⟨S3200x1, .f32⟩
  | .local .tc .vmem, ⟨17, _⟩ => ⟨S3200x1, .f32⟩
  | .local .tc .vmem, ⟨18, _⟩ => ⟨S3200x1, .f32⟩
  | .local .tc .vmem, ⟨19, _⟩ => ⟨S3200x1, .f32⟩
  | .local .tc .vmem, ⟨20, _⟩ => ⟨S3200x1, .f32⟩
  | .local .tc .vmem, ⟨21, _⟩ => ⟨S3200x1, .f32⟩
  | .local .tc .vmem, ⟨22, _⟩ => ⟨S3200x1, .f32⟩
  | .local .tc .vmem, ⟨23, _⟩ => ⟨S3200x1, .f32⟩
  | .local .tc .vmem, ⟨24, _⟩ => ⟨S3200x1, .f32⟩
  | .local .tc .vmem, ⟨25, _⟩ => ⟨S3200x1, .f32⟩
  | .local .tc .vmem, ⟨26, _⟩ => ⟨S2x3200x64, .f32⟩
  | .local .tc .vmem, ⟨27, _⟩ => ⟨S2x3200x64, .f32⟩
  | .local .scVector .vmem, ⟨0, _⟩ => ⟨S800, .i32⟩
  | .local .scVector .vmem, ⟨1, _⟩ => ⟨S2x400x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v1_scv : Ref sig .scVector := ⟨.hbm, 7, rfl⟩
abbrev main_v4_scv : Ref sig .scVector := ⟨.hbm, 11, rfl⟩
abbrev main_v5_scv : Ref sig .scVector := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc3_stg0_0 : Ref sig .tc := ⟨.vmem, 10, rfl⟩
abbrev cc3_stg0_1 : Ref sig .tc := ⟨.vmem, 11, rfl⟩
abbrev cc3_stg1_0 : Ref sig .tc := ⟨.vmem, 12, rfl⟩
abbrev cc3_stg1_1 : Ref sig .tc := ⟨.vmem, 13, rfl⟩
abbrev cc3_stg2_0 : Ref sig .tc := ⟨.vmem, 14, rfl⟩
abbrev cc3_stg2_1 : Ref sig .tc := ⟨.vmem, 15, rfl⟩
abbrev cc3_stg3_0 : Ref sig .tc := ⟨.vmem, 16, rfl⟩
abbrev cc3_stg3_1 : Ref sig .tc := ⟨.vmem, 17, rfl⟩
abbrev cc3_stg4_0 : Ref sig .tc := ⟨.vmem, 18, rfl⟩
abbrev cc3_stg4_1 : Ref sig .tc := ⟨.vmem, 19, rfl⟩
abbrev cc3_stg5_0 : Ref sig .tc := ⟨.vmem, 20, rfl⟩
abbrev cc3_stg5_1 : Ref sig .tc := ⟨.vmem, 21, rfl⟩
abbrev cc3_stg6_0 : Ref sig .tc := ⟨.vmem, 22, rfl⟩
abbrev cc3_stg6_1 : Ref sig .tc := ⟨.vmem, 23, rfl⟩
abbrev cc3_stg7_0 : Ref sig .tc := ⟨.vmem, 24, rfl⟩
abbrev cc3_stg7_1 : Ref sig .tc := ⟨.vmem, 25, rfl⟩
abbrev cc3_stg8_0 : Ref sig .tc := ⟨.vmem, 26, rfl⟩
abbrev cc3_stg8_1 : Ref sig .tc := ⟨.vmem, 27, rfl⟩
abbrev cc2_scoped0 : Ref sig .scVector := ⟨.vmem, 0, rfl⟩
abbrev cc2_scoped2 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc3_sem5_0 : DmaSem sig := 25
abbrev cc3_sem5_1 : DmaSem sig := 26
abbrev cc3_sem6_0 : DmaSem sig := 27
abbrev cc3_sem6_1 : DmaSem sig := 28
abbrev cc3_sem7_0 : DmaSem sig := 29
abbrev cc3_sem7_1 : DmaSem sig := 30
abbrev cc3_sem8_0 : DmaSem sig := 31
abbrev cc3_sem8_1 : DmaSem sig := 32
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1600x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1600x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1600x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 16], ![false, false]⟩

def k2_off1 : Fin 1 → Nat :=
  let c0_i32_13_r0 : BitVec 32 := 0#32
  let c2_i32_r0 : BitVec 32 := 2#32
  let v21_r0 : BitVec 32 := Scalar.remui c0_i32_13_r0 c2_i32_r0
  let c400_i32_14_r0 : BitVec 32 := 400#32
  let v23_r0 : BitVec 32 := Scalar.muli v21_r0 c400_i32_14_r0
  let c0_i32_15_r0 : BitVec 32 := 0#32
  let v24_r0 : BitVec 32 := Scalar.addi v23_r0 c0_i32_15_r0
  ![v24_r0.toNat]
def k2_off2 (i : grid2.Coords) : Fin 1 → Nat :=
  let c400_i32_r0 : BitVec 32 := 400#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v7_r0 : BitVec 32 := Scalar.addi c0_i32_1_r0 v4
  let v22_r0 : BitVec 32 := Scalar.muli c400_i32_r0 v7_r0
  ![v22_r0.toNat]
def k2_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k2_t1_loop : Scf.Loop 32 :=
  let c0_i32_22_r0 : BitVec 32 := 0#32
  let c64_i32_23_r0 : BitVec 32 := 64#32
  let v32_r0 : BitVec 32 := Scalar.addi c0_i32_22_r0 c64_i32_23_r0
  let c1_i32_24_r0 : BitVec 32 := 1#32
  ⟨c0_i32_22_r0, v32_r0, c1_i32_24_r0⟩
def k2_off4 (arg6_r0 : BitVec 32) : Fin 1 → Nat :=
  let c2_i32_95_r0 : BitVec 32 := 2#32
  let v145_r0 : BitVec 32 := Scalar.remui arg6_r0 c2_i32_95_r0
  let c400_i32_97_r0 : BitVec 32 := 400#32
  let v147_r0 : BitVec 32 := Scalar.muli v145_r0 c400_i32_97_r0
  let c0_i32_98_r0 : BitVec 32 := 0#32
  let v148_r0 : BitVec 32 := Scalar.addi v147_r0 c0_i32_98_r0
  ![v148_r0.toNat]
def k2_cond1 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v72_r0 : BitVec 32 := Scalar.addi arg10_r0 c1_i32_56_r0
  let v73_r0 : BitVec 32 := Scalar.select true_57_r0 v72_r0 arg10_r0
  let c64_i32_58_r0 : BitVec 32 := 64#32
  let v74_r0 : BitVec 1 := Scalar.cmpi .eq v73_r0 c64_i32_58_r0
  let c0_i32_59_r0 : BitVec 32 := 0#32
  let v75_r0 : BitVec 32 := Scalar.select v74_r0 c0_i32_59_r0 v73_r0
  let v76_r0 : BitVec 32 := Scalar.addi v75_r0 v4
  let v82_r0 : BitVec 1 := Scalar.cmpi .ne v66_r0 v76_r0
  let c0_i32_22_r0 : BitVec 32 := 0#32
  let c1_i32_24_r0 : BitVec 32 := 1#32
  let arg5_r0 : BitVec 32 := Scf.iv c0_i32_22_r0 c1_i32_24_r0 k2_t1
  let c63_i32_64_r0 : BitVec 32 := 63#32
  let v83_r0 : BitVec 1 := Scalar.cmpi .sge arg5_r0 c63_i32_64_r0
  let true_65_r0 : BitVec 1 := 1#1
  let v84_r0 : BitVec 1 := Scalar.xori v83_r0 true_65_r0
  let v85_r0 : BitVec 1 := Scalar.andi v82_r0 v84_r0
  let true_66_r0 : BitVec 1 := 1#1
  let v86_r0 : BitVec 1 := Scalar.andi v85_r0 true_66_r0
  let v87_r0 : BitVec 32 := Scalar.extui v86_r0
  let c0_i32_67_r0 : BitVec 32 := 0#32
  let v88_r0 : BitVec 1 := Scalar.cmpi .ne v87_r0 c0_i32_67_r0
  v88_r0

def k2_off5 (i : grid2.Coords) (arg10_r0 : BitVec 32) : Fin 1 → Nat :=
  let c400_i32_96_r0 : BitVec 32 := 400#32
  let true_57_r0 : BitVec 1 := 1#1
  let c1_i32_56_r0 : BitVec 32 := 1#32
  let v72_r0 : BitVec 32 := Scalar.addi arg10_r0 c1_i32_56_r0
  let v73_r0 : BitVec 32 := Scalar.select true_57_r0 v72_r0 arg10_r0
  let c64_i32_58_r0 : BitVec 32 := 64#32
  let v74_r0 : BitVec 1 := Scalar.cmpi .eq v73_r0 c64_i32_58_r0
  let c0_i32_59_r0 : BitVec 32 := 0#32
  let v75_r0 : BitVec 32 := Scalar.select v74_r0 c0_i32_59_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v76_r0 : BitVec 32 := Scalar.addi v75_r0 v4
  let v146_r0 : BitVec 32 := Scalar.muli c400_i32_96_r0 v76_r0
  ![v146_r0.toNat]
def k2_off6 (arg6_r0 : BitVec 32) : Fin 1 → Nat :=
  let c2_i32_95_r0 : BitVec 32 := 2#32
  let v145_r0 : BitVec 32 := Scalar.remui arg6_r0 c2_i32_95_r0
  ![v145_r0.toNat]
def k2_off7 (arg7_r0 : BitVec 32) : Fin 1 → Nat :=
  let c2_i32_96_r0 : BitVec 32 := 2#32
  let v146_r0 : BitVec 32 := Scalar.remui arg7_r0 c2_i32_96_r0
  let c400_i32_97_r0 : BitVec 32 := 400#32
  let v147_r0 : BitVec 32 := Scalar.muli v146_r0 c400_i32_97_r0
  let c0_i32_98_r0 : BitVec 32 := 0#32
  let v148_r0 : BitVec 32 := Scalar.addi v147_r0 c0_i32_98_r0
  ![v148_r0.toNat]
def k2_cond2 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_53_r0 : BitVec 1 := 1#1
  let c1_i32_52_r0 : BitVec 32 := 1#32
  let v67_r0 : BitVec 32 := Scalar.subi arg10_r0 c1_i32_52_r0
  let v68_r0 : BitVec 32 := Scalar.select true_53_r0 v67_r0 arg10_r0
  let c_m1_i32_54_r0 : BitVec 32 := 4294967295#32
  let v69_r0 : BitVec 1 := Scalar.cmpi .eq v68_r0 c_m1_i32_54_r0
  let c63_i32_55_r0 : BitVec 32 := 63#32
  let v70_r0 : BitVec 32 := Scalar.select v69_r0 c63_i32_55_r0 v68_r0
  let v71_r0 : BitVec 32 := Scalar.addi v70_r0 v4
  let v96_r0 : BitVec 1 := Scalar.cmpi .ne v66_r0 v71_r0
  let c0_i32_22_r0 : BitVec 32 := 0#32
  let c1_i32_24_r0 : BitVec 32 := 1#32
  let arg5_r0 : BitVec 32 := Scf.iv c0_i32_22_r0 c1_i32_24_r0 k2_t1
  let c0_i32_50_r0 : BitVec 32 := 0#32
  let v64_r0 : BitVec 1 := Scalar.cmpi .eq arg5_r0 c0_i32_50_r0
  let v97_r0 : BitVec 1 := Scalar.ori v96_r0 v64_r0
  let c0_i32_72_r0 : BitVec 32 := 0#32
  let v98_r0 : BitVec 1 := Scalar.cmpi .sge arg5_r0 c0_i32_72_r0
  let v99_r0 : BitVec 1 := Scalar.andi v97_r0 v98_r0
  let v100_r0 : BitVec 32 := Scalar.extui v99_r0
  let c0_i32_73_r0 : BitVec 32 := 0#32
  let v101_r0 : BitVec 1 := Scalar.cmpi .ne v100_r0 c0_i32_73_r0
  v101_r0

def k2_off8 (i : grid2.Coords) (arg10_r0 : BitVec 32) : Fin 1 → Nat :=
  let c400_i32_95_r0 : BitVec 32 := 400#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v145_r0 : BitVec 32 := Scalar.muli c400_i32_95_r0 v66_r0
  ![v145_r0.toNat]
def k2_off9 (arg7_r0 : BitVec 32) : Fin 1 → Nat :=
  let c2_i32_96_r0 : BitVec 32 := 2#32
  let v146_r0 : BitVec 32 := Scalar.remui arg7_r0 c2_i32_96_r0
  ![v146_r0.toNat]
def k2_off10 (arg8_r0 : BitVec 32) : Fin 3 → Nat :=
  let c2_i32_78_r0 : BitVec 32 := 2#32
  let v110_r0 : BitVec 32 := Scalar.remui arg8_r0 c2_i32_78_r0
  let c0_i32_95_r1 : BitVec 32 := 0#32
  let c0_i32_96_r1 : BitVec 32 := 0#32
  ![v110_r0.toNat, 0, 0]

def k2_chk2 (arg8_r0 : BitVec 32) : Prop :=
  (∀ a, (k2_off10 arg8_r0) a + S1x400x128.size a ≤ S2x400x128.size a)
theorem k2_off10_inb : ∀ (arg8_r0 : BitVec 32) (k2_hw2 : k2_chk2 arg8_r0), ∀ a, (k2_off10 arg8_r0) a + S1x400x128.size a ≤ S2x400x128.size a := fun arg8_r0 k2_hw2 => k2_hw2

def k2_off11 (arg7_r0 : BitVec 32) : Fin 1 → Nat :=
  let c2_i32_76_r0 : BitVec 32 := 2#32
  let v108_r0 : BitVec 32 := Scalar.remui arg7_r0 c2_i32_76_r0
  let c400_i32_77_r0 : BitVec 32 := 400#32
  let v109_r0 : BitVec 32 := Scalar.muli v108_r0 c400_i32_77_r0
  ![v109_r0.toNat]

def k2_chk3 (arg7_r0 : BitVec 32) : Prop :=
  (∀ a, (k2_off11 arg7_r0) a + S400.size a ≤ S800.size a)
theorem k2_off11_inb : ∀ (arg7_r0 : BitVec 32) (k2_hw3 : k2_chk3 arg7_r0), ∀ a, (k2_off11 arg7_r0) a + S400.size a ≤ S800.size a := fun arg7_r0 k2_hw3 => k2_hw3

def k2_off12 (arg8_r0 : BitVec 32) : Fin 3 → Nat :=
  let c2_i32_95_r0 : BitVec 32 := 2#32
  let v145_r0 : BitVec 32 := Scalar.remui arg8_r0 c2_i32_95_r0
  let c0_i32_97_r0 : BitVec 32 := 0#32
  let c0_i32_98_r0 : BitVec 32 := 0#32
  ![v145_r0.toNat, 0, 0]
def k2_cond5 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v72_r0 : BitVec 32 := Scalar.addi arg10_r0 c1_i32_56_r0
  let v73_r0 : BitVec 32 := Scalar.select true_57_r0 v72_r0 arg10_r0
  let c64_i32_58_r0 : BitVec 32 := 64#32
  let v74_r0 : BitVec 1 := Scalar.cmpi .eq v73_r0 c64_i32_58_r0
  let c0_i32_59_r0 : BitVec 32 := 0#32
  let v75_r0 : BitVec 32 := Scalar.select v74_r0 c0_i32_59_r0 v73_r0
  let v76_r0 : BitVec 32 := Scalar.addi v75_r0 v4
  let v116_r0 : BitVec 1 := Scalar.cmpi .ne v66_r0 v76_r0
  let c0_i32_22_r0 : BitVec 32 := 0#32
  let c1_i32_24_r0 : BitVec 32 := 1#32
  let arg5_r0 : BitVec 32 := Scf.iv c0_i32_22_r0 c1_i32_24_r0 k2_t1
  let c63_i32_51_r0 : BitVec 32 := 63#32
  let v65_r0 : BitVec 1 := Scalar.cmpi .eq arg5_r0 c63_i32_51_r0
  let v117_r0 : BitVec 1 := Scalar.ori v116_r0 v65_r0
  let v118_r0 : BitVec 32 := Scalar.extui v117_r0
  let c0_i32_80_r0 : BitVec 32 := 0#32
  let v119_r0 : BitVec 1 := Scalar.cmpi .ne v118_r0 c0_i32_80_r0
  v119_r0

def k2_off13 (i : grid2.Coords) (arg10_r0 : BitVec 32) : Fin 2 → Nat :=
  let c400_i32_96_r0 : BitVec 32 := 400#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v146_r0 : BitVec 32 := Scalar.muli c400_i32_96_r0 v66_r0
  let c0_i32_99_r0 : BitVec 32 := 0#32
  ![v146_r0.toNat, 0]
def k2_off14 (arg8_r0 : BitVec 32) : Fin 1 → Nat :=
  let c2_i32_95_r0 : BitVec 32 := 2#32
  let v145_r0 : BitVec 32 := Scalar.remui arg8_r0 c2_i32_95_r0
  ![v145_r0.toNat]
def k2_off15 (arg9_r0 : BitVec 32) : Fin 3 → Nat :=
  let c2_i32_95_r0 : BitVec 32 := 2#32
  let v145_r0 : BitVec 32 := Scalar.remui arg9_r0 c2_i32_95_r0
  let c0_i32_97_r0 : BitVec 32 := 0#32
  let c0_i32_98_r0 : BitVec 32 := 0#32
  ![v145_r0.toNat, 0, 0]
def k2_cond7 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_53_r0 : BitVec 1 := 1#1
  let c1_i32_52_r0 : BitVec 32 := 1#32
  let v67_r0 : BitVec 32 := Scalar.subi arg10_r0 c1_i32_52_r0
  let v68_r0 : BitVec 32 := Scalar.select true_53_r0 v67_r0 arg10_r0
  let c_m1_i32_54_r0 : BitVec 32 := 4294967295#32
  let v69_r0 : BitVec 1 := Scalar.cmpi .eq v68_r0 c_m1_i32_54_r0
  let c63_i32_55_r0 : BitVec 32 := 63#32
  let v70_r0 : BitVec 32 := Scalar.select v69_r0 c63_i32_55_r0 v68_r0
  let v71_r0 : BitVec 32 := Scalar.addi v70_r0 v4
  let v129_r0 : BitVec 1 := Scalar.cmpi .ne v66_r0 v71_r0
  let c0_i32_22_r0 : BitVec 32 := 0#32
  let c1_i32_24_r0 : BitVec 32 := 1#32
  let arg5_r0 : BitVec 32 := Scf.iv c0_i32_22_r0 c1_i32_24_r0 k2_t1
  let c0_i32_50_r0 : BitVec 32 := 0#32
  let v64_r0 : BitVec 1 := Scalar.cmpi .eq arg5_r0 c0_i32_50_r0
  let true_86_r0 : BitVec 1 := 1#1
  let v130_r0 : BitVec 1 := Scalar.xori v64_r0 true_86_r0
  let v131_r0 : BitVec 1 := Scalar.andi v129_r0 v130_r0
  let v132_r0 : BitVec 32 := Scalar.extui v131_r0
  let c0_i32_87_r0 : BitVec 32 := 0#32
  let v133_r0 : BitVec 1 := Scalar.cmpi .ne v132_r0 c0_i32_87_r0
  v133_r0

def k2_off16 (i : grid2.Coords) (arg10_r0 : BitVec 32) : Fin 2 → Nat :=
  let c400_i32_96_r0 : BitVec 32 := 400#32
  let true_53_r0 : BitVec 1 := 1#1
  let c1_i32_52_r0 : BitVec 32 := 1#32
  let v67_r0 : BitVec 32 := Scalar.subi arg10_r0 c1_i32_52_r0
  let v68_r0 : BitVec 32 := Scalar.select true_53_r0 v67_r0 arg10_r0
  let c_m1_i32_54_r0 : BitVec 32 := 4294967295#32
  let v69_r0 : BitVec 1 := Scalar.cmpi .eq v68_r0 c_m1_i32_54_r0
  let c63_i32_55_r0 : BitVec 32 := 63#32
  let v70_r0 : BitVec 32 := Scalar.select v69_r0 c63_i32_55_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v71_r0 : BitVec 32 := Scalar.addi v70_r0 v4
  let v146_r0 : BitVec 32 := Scalar.muli c400_i32_96_r0 v71_r0
  let c0_i32_99_r0 : BitVec 32 := 0#32
  ![v146_r0.toNat, 0]
def k2_off17 (arg9_r0 : BitVec 32) : Fin 1 → Nat :=
  let c2_i32_95_r0 : BitVec 32 := 2#32
  let v145_r0 : BitVec 32 := Scalar.remui arg9_r0 c2_i32_95_r0
  ![v145_r0.toNat]

def k2_chk1 (i : grid2.Coords) (k2_t1 : Fin k2_t1_loop.trips) (arg6_r0 : BitVec 32) (arg7_r0 : BitVec 32) (arg8_r0 : BitVec 32) (arg9_r0 : BitVec 32) (arg10_r0 : BitVec 32) : Prop :=
  (∀ (k2_h1 : k2_cond1 i k2_t1 arg10_r0 = 1#1), ∀ a, (k2_off4 arg6_r0) a + S400.size a ≤ S800.size a) ∧
  (∀ (k2_h1 : k2_cond1 i k2_t1 arg10_r0 = 1#1), ∀ a, (k2_off5 i arg10_r0) a + S400.size a ≤ S819200.size a) ∧
  (∀ (k2_h1 : k2_cond1 i k2_t1 arg10_r0 = 1#1), ∀ a, (k2_off6 arg6_r0) a + S1.size a ≤ S2.size a) ∧
  (∀ (k2_h2 : k2_cond2 i k2_t1 arg10_r0 = 1#1), ∀ a, (k2_off7 arg7_r0) a + S400.size a ≤ S800.size a) ∧
  (∀ (k2_h2 : k2_cond2 i k2_t1 arg10_r0 = 1#1), ∀ a, (k2_off8 i arg10_r0) a + S400.size a ≤ S819200.size a) ∧
  (∀ (k2_h2 : k2_cond2 i k2_t1 arg10_r0 = 1#1), ∀ a, (k2_off9 arg7_r0) a + S1.size a ≤ S2.size a) ∧
  (∀ (k2_h5 : k2_cond5 i k2_t1 arg10_r0 = 1#1), ∀ a, (k2_off12 arg8_r0) a + S1x400x128.size a ≤ S2x400x128.size a) ∧
  (∀ (k2_h5 : k2_cond5 i k2_t1 arg10_r0 = 1#1), ∀ a, (k2_off13 i arg10_r0) a + S400x128.size a ≤ S819200x128.size a) ∧
  (∀ (k2_h5 : k2_cond5 i k2_t1 arg10_r0 = 1#1), ∀ a, (k2_off14 arg8_r0) a + S1.size a ≤ S2.size a) ∧
  (∀ (k2_h7 : k2_cond7 i k2_t1 arg10_r0 = 1#1), ∀ a, (k2_off15 arg9_r0) a + S1x400x128.size a ≤ S2x400x128.size a) ∧
  (∀ (k2_h7 : k2_cond7 i k2_t1 arg10_r0 = 1#1), ∀ a, (k2_off16 i arg10_r0) a + S400x128.size a ≤ S819200x128.size a) ∧
  (∀ (k2_h7 : k2_cond7 i k2_t1 arg10_r0 = 1#1), ∀ a, (k2_off17 arg9_r0) a + S1.size a ≤ S2.size a)
theorem k2_off4_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off4 arg6_r0) a + S400.size a ≤ S800.size a := fun i k2_t1 arg6_r0 arg7_r0 arg8_r0 arg9_r0 arg10_r0 k2_hw1 k2_h1 => k2_hw1.1 k2_h1
theorem k2_off5_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off5 i arg10_r0) a + S400.size a ≤ S819200.size a := fun i k2_t1 arg6_r0 arg7_r0 arg8_r0 arg9_r0 arg10_r0 k2_hw1 k2_h1 => k2_hw1.2.1 k2_h1
theorem k2_off6_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off6 arg6_r0) a + S1.size a ≤ S2.size a := fun i k2_t1 arg6_r0 arg7_r0 arg8_r0 arg9_r0 arg10_r0 k2_hw1 k2_h1 => k2_hw1.2.2.1 k2_h1
theorem k2_off7_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off7 arg7_r0) a + S400.size a ≤ S800.size a := fun i k2_t1 arg6_r0 arg7_r0 arg8_r0 arg9_r0 arg10_r0 k2_hw1 k2_h2 => k2_hw1.2.2.2.1 k2_h2
theorem k2_off8_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off8 i arg10_r0) a + S400.size a ≤ S819200.size a := fun i k2_t1 arg6_r0 arg7_r0 arg8_r0 arg9_r0 arg10_r0 k2_hw1 k2_h2 => k2_hw1.2.2.2.2.1 k2_h2
theorem k2_off9_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off9 arg7_r0) a + S1.size a ≤ S2.size a := fun i k2_t1 arg6_r0 arg7_r0 arg8_r0 arg9_r0 arg10_r0 k2_hw1 k2_h2 => k2_hw1.2.2.2.2.2.1 k2_h2
theorem k2_off12_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off12 arg8_r0) a + S1x400x128.size a ≤ S2x400x128.size a := fun i k2_t1 arg6_r0 arg7_r0 arg8_r0 arg9_r0 arg10_r0 k2_hw1 k2_h5 => k2_hw1.2.2.2.2.2.2.1 k2_h5
theorem k2_off13_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off13 i arg10_r0) a + S400x128.size a ≤ S819200x128.size a := fun i k2_t1 arg6_r0 arg7_r0 arg8_r0 arg9_r0 arg10_r0 k2_hw1 k2_h5 => k2_hw1.2.2.2.2.2.2.2.1 k2_h5
theorem k2_off14_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off14 arg8_r0) a + S1.size a ≤ S2.size a := fun i k2_t1 arg6_r0 arg7_r0 arg8_r0 arg9_r0 arg10_r0 k2_hw1 k2_h5 => k2_hw1.2.2.2.2.2.2.2.2.1 k2_h5
theorem k2_off15_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off15 arg9_r0) a + S1x400x128.size a ≤ S2x400x128.size a := fun i k2_t1 arg6_r0 arg7_r0 arg8_r0 arg9_r0 arg10_r0 k2_hw1 k2_h7 => k2_hw1.2.2.2.2.2.2.2.2.2.1 k2_h7
theorem k2_off16_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off16 i arg10_r0) a + S400x128.size a ≤ S819200x128.size a := fun i k2_t1 arg6_r0 arg7_r0 arg8_r0 arg9_r0 arg10_r0 k2_hw1 k2_h7 => k2_hw1.2.2.2.2.2.2.2.2.2.2.1 k2_h7
theorem k2_off17_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off17 arg9_r0) a + S1.size a ≤ S2.size a := fun i k2_t1 arg6_r0 arg7_r0 arg8_r0 arg9_r0 arg10_r0 k2_hw1 k2_h7 => k2_hw1.2.2.2.2.2.2.2.2.2.2.2 k2_h7

def k2_off18 (v33_3_r0 : BitVec 32) : Fin 3 → Nat :=
  let c2_i32_42_r0 : BitVec 32 := 2#32
  let v54_r0 : BitVec 32 := Scalar.remui v33_3_r0 c2_i32_42_r0
  let c0_i32_44_r0 : BitVec 32 := 0#32
  let c0_i32_45_r0 : BitVec 32 := 0#32
  ![v54_r0.toNat, 0, 0]

def k2_off19 (i : grid2.Coords) (v33_4_r0 : BitVec 32) : Fin 2 → Nat :=
  let c400_i32_43_r0 : BitVec 32 := 400#32
  let true_27_r0 : BitVec 1 := 1#1
  let c1_i32_26_r0 : BitVec 32 := 1#32
  let v34_r0 : BitVec 32 := Scalar.subi v33_4_r0 c1_i32_26_r0
  let v35_r0 : BitVec 32 := Scalar.select true_27_r0 v34_r0 v33_4_r0
  let c_m1_i32_28_r0 : BitVec 32 := 4294967295#32
  let v36_r0 : BitVec 1 := Scalar.cmpi .eq v35_r0 c_m1_i32_28_r0
  let c63_i32_29_r0 : BitVec 32 := 63#32
  let v37_r0 : BitVec 32 := Scalar.select v36_r0 c63_i32_29_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v38_r0 : BitVec 32 := Scalar.addi v37_r0 v4
  let v55_r0 : BitVec 32 := Scalar.muli c400_i32_43_r0 v38_r0
  let c0_i32_46_r0 : BitVec 32 := 0#32
  ![v55_r0.toNat, 0]

def k2_chk5 (i : grid2.Coords) (v33_4_r0 : BitVec 32) : Prop :=
  (∀ a, (k2_off19 i v33_4_r0) a + S400x128.size a ≤ S819200x128.size a)
theorem k2_off19_inb : ∀ (i : grid2.Coords) (v33_4_r0 : BitVec 32) (k2_hw5 : k2_chk5 i v33_4_r0), ∀ a, (k2_off19 i v33_4_r0) a + S400x128.size a ≤ S819200x128.size a := fun i v33_4_r0 k2_hw5 => k2_hw5

def k2_off20 (v33_3_r0 : BitVec 32) : Fin 1 → Nat :=
  let c2_i32_42_r0 : BitVec 32 := 2#32
  let v54_r0 : BitVec 32 := Scalar.remui v33_3_r0 c2_i32_42_r0
  ![v54_r0.toNat]
def k2_off21 (v33_3_r0 : BitVec 32) : Fin 3 → Nat :=
  let c2_i32_42_r0 : BitVec 32 := 2#32
  let v54_r0 : BitVec 32 := Scalar.remui v33_3_r0 c2_i32_42_r0
  let c0_i32_48_r0 : BitVec 32 := 0#32
  let c0_i32_49_r0 : BitVec 32 := 0#32
  ![v54_r0.toNat, 0, 0]

def k2_chk4 (v33_3_r0 : BitVec 32) : Prop :=
  (∀ a, (k2_off18 v33_3_r0) a + S1x400x128.size a ≤ S2x400x128.size a) ∧
  (∀ a, (k2_off20 v33_3_r0) a + S1.size a ≤ S2.size a) ∧
  (∀ a, (k2_off21 v33_3_r0) a + S1x400x128.size a ≤ S2x400x128.size a)
theorem k2_off18_inb : ∀ (v33_3_r0 : BitVec 32) (k2_hw4 : k2_chk4 v33_3_r0), ∀ a, (k2_off18 v33_3_r0) a + S1x400x128.size a ≤ S2x400x128.size a := fun v33_3_r0 k2_hw4 => k2_hw4.1
theorem k2_off20_inb : ∀ (v33_3_r0 : BitVec 32) (k2_hw4 : k2_chk4 v33_3_r0), ∀ a, (k2_off20 v33_3_r0) a + S1.size a ≤ S2.size a := fun v33_3_r0 k2_hw4 => k2_hw4.2.1
theorem k2_off21_inb : ∀ (v33_3_r0 : BitVec 32) (k2_hw4 : k2_chk4 v33_3_r0), ∀ a, (k2_off21 v33_3_r0) a + S1x400x128.size a ≤ S2x400x128.size a := fun v33_3_r0 k2_hw4 => k2_hw4.2.2

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S3200x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3200x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S3200x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S3200x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S3200x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S3200x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S3200x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S3200x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2x3200x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S100001x64 : Shape := ⟨2, ![100001, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 217
  | .vmem => 0
  | .smem => 0
  | _ => 0

abbrev hbmTy0_0 (i : Nat) : BufTy := match i % 128 with
  | 0 => ⟨S4096x200, .i32⟩
  | 1 => ⟨S4096x200, .f32⟩
  | 2 => ⟨S4096x200, .f32⟩
  | 3 => ⟨S100001x64, .f32⟩
  | 4 => ⟨S_, .f32⟩
  | 5 => ⟨S4096x200, .f32⟩
  | 6 => ⟨S4096x200, .f32⟩
  | 7 => ⟨S4096x200, .f32⟩
  | 8 => ⟨S4096x200x1, .f32⟩
  | 9 => ⟨S4096x200x1, .f32⟩
  | 10 => ⟨S_, .i32⟩
  | 11 => ⟨S4096x200, .i32⟩
  | 12 => ⟨S4096x200, .i1⟩
  | 13 => ⟨S_, .i32⟩
  | 14 => ⟨S4096x200, .i32⟩
  | 15 => ⟨S4096x200, .i32⟩
  | 16 => ⟨S4096x200, .i32⟩
  | 17 => ⟨S4096x200x1, .i32⟩
  | 18 => ⟨S1, .i32⟩
  | 19 => ⟨S_, .i32⟩
  | 20 => ⟨S4096x200x1, .i32⟩
  | 21 => ⟨S4096x200x1, .i1⟩
  | 22 => ⟨S1x1x1, .i32⟩
  | 23 => ⟨S4096x200x1, .i32⟩
  | 24 => ⟨S4096x200x1, .i1⟩
  | 25 => ⟨S4096x200x1, .i1⟩
  | 26 => ⟨S_, .i1⟩
  | 27 => ⟨S4096x200, .i1⟩
  | 28 => ⟨S4096x200x64, .f32⟩
  | 29 => ⟨S4096x200x64, .i1⟩
  | 30 => ⟨S_, .f32⟩
  | 31 => ⟨S4096x200x64, .f32⟩
  | 32 => ⟨S4096x200x64, .f32⟩
  | 33 => ⟨S_, .f32⟩
  | 34 => ⟨S4096x200x64, .f32⟩
  | 35 => ⟨S4096x200x64, .f32⟩
  | 36 => ⟨S4096x200x64, .f32⟩
  | 37 => ⟨S4096x200x64, .f32⟩
  | 38 => ⟨S4096x200x64, .i1⟩
  | 39 => ⟨S4096x200x64, .f32⟩
  | 40 => ⟨S4096x200x64, .f32⟩
  | 41 => ⟨S4096x200x64, .f32⟩
  | 42 => ⟨S4096x200x64, .f32⟩
  | 43 => ⟨S4096x200x64, .f32⟩
  | 44 => ⟨S4096x200x64, .f32⟩
  | 45 => ⟨S4096x200x64, .f32⟩
  | 46 => ⟨S4096x200x64, .f32⟩
  | 47 => ⟨S_, .f32⟩
  | 48 => ⟨S4096x200x1, .f32⟩
  | 49 => ⟨S4096x200x1, .f32⟩
  | 50 => ⟨S_, .f32⟩
  | 51 => ⟨S4096x200x1, .f32⟩
  | 52 => ⟨S4096x200x1, .f32⟩
  | 53 => ⟨S4096x200x1, .f32⟩
  | 54 => ⟨S4096x200x64, .f32⟩
  | 55 => ⟨S4096x200x64, .f32⟩
  | 56 => ⟨S_, .f32⟩
  | 57 => ⟨S4096x200x64, .f32⟩
  | 58 => ⟨S4096x200x64, .f32⟩
  | 59 => ⟨S_, .f32⟩
  | 60 => ⟨S4096x200x1, .f32⟩
  | 61 => ⟨S4096x200x1, .f32⟩
  | 62 => ⟨S_, .f32⟩
  | 63 => ⟨S4096x200x64, .f32⟩
  | 64 => ⟨S4096x200x64, .f32⟩
  | 65 => ⟨S_, .f32⟩
  | 66 => ⟨S4096x200x1, .f32⟩
  | 67 => ⟨S4096x200x1, .f32⟩
  | 68 => ⟨S4096x200x64, .f32⟩
  | 69 => ⟨S4096x200x64, .f32⟩
  | 70 => ⟨S4096x200x64, .f32⟩
  | 71 => ⟨S4096x200x64, .f32⟩
  | 72 => ⟨S_, .f32⟩
  | 73 => ⟨S4096x200x1, .f32⟩
  | 74 => ⟨S4096x200x1, .f32⟩
  | 75 => ⟨S4096x200x64, .f32⟩
  | 76 => ⟨S4096x200x64, .f32⟩
  | 77 => ⟨S4096x200x64, .f32⟩
  | 78 => ⟨S4096x200x64, .f32⟩
  | 79 => ⟨S_, .f32⟩
  | 80 => ⟨S4096x200x1, .f32⟩
  | 81 => ⟨S4096x200x1, .f32⟩
  | 82 => ⟨S4096x200x64, .f32⟩
  | 83 => ⟨S4096x200x64, .f32⟩
  | 84 => ⟨S4096x200x64, .f32⟩
  | 85 => ⟨S4096x200x64, .f32⟩
  | 86 => ⟨S_, .f32⟩
  | 87 => ⟨S4096x200x1, .f32⟩
  | 88 => ⟨S4096x200x1, .f32⟩
  | 89 => ⟨S4096x200x64, .f32⟩
  | 90 => ⟨S4096x200x64, .f32⟩
  | 91 => ⟨S4096x200x64, .f32⟩
  | 92 => ⟨S4096x200x64, .f32⟩
  | 93 => ⟨S_, .f32⟩
  | 94 => ⟨S4096x200x1, .f32⟩
  | 95 => ⟨S4096x200x1, .f32⟩
  | 96 => ⟨S4096x200x64, .f32⟩
  | 97 => ⟨S4096x200x64, .f32⟩
  | 98 => ⟨S4096x200x64, .f32⟩
  | 99 => ⟨S4096x200x64, .f32⟩
  | 100 => ⟨S_, .f32⟩
  | 101 => ⟨S4096x200x1, .f32⟩
  | 102 => ⟨S4096x200x1, .f32⟩
  | 103 => ⟨S4096x200x64, .f32⟩
  | 104 => ⟨S4096x200x64, .f32⟩
  | 105 => ⟨S4096x200x64, .f32⟩
  | 106 => ⟨S4096x200x64, .f32⟩
  | 107 => ⟨S_, .f32⟩
  | 108 => ⟨S4096x200x1, .f32⟩
  | 109 => ⟨S4096x200x1, .f32⟩
  | 110 => ⟨S4096x200x64, .f32⟩
  | 111 => ⟨S4096x200x64, .f32⟩
  | 112 => ⟨S4096x200x64, .f32⟩
  | 113 => ⟨S4096x200x64, .f32⟩
  | 114 => ⟨S_, .f32⟩
  | 115 => ⟨S4096x200x1, .f32⟩
  | 116 => ⟨S4096x200x1, .f32⟩
  | 117 => ⟨S4096x200x64, .f32⟩
  | 118 => ⟨S4096x200x64, .f32⟩
  | 119 => ⟨S4096x200x64, .f32⟩
  | 120 => ⟨S4096x200x64, .f32⟩
  | 121 => ⟨S_, .f32⟩
  | 122 => ⟨S4096x200x1, .f32⟩
  | 123 => ⟨S4096x200x1, .f32⟩
  | 124 => ⟨S4096x200x64, .f32⟩
  | 125 => ⟨S4096x200x64, .f32⟩
  | 126 => ⟨S4096x200x64, .f32⟩
  | 127 => ⟨S4096x200x64, .f32⟩
  | _ => ⟨S4096x200, .i32⟩

abbrev hbmTy0_1 (i : Nat) : BufTy := match i % 128 with
  | 0 => ⟨S_, .f32⟩
  | 1 => ⟨S4096x200x1, .f32⟩
  | 2 => ⟨S4096x200x1, .f32⟩
  | 3 => ⟨S4096x200x64, .f32⟩
  | 4 => ⟨S4096x200x64, .f32⟩
  | 5 => ⟨S4096x200x64, .f32⟩
  | 6 => ⟨S4096x200x64, .f32⟩
  | 7 => ⟨S4096x200x64, .f32⟩
  | 8 => ⟨S4096x200x64, .f32⟩
  | 9 => ⟨S4096x200x64, .f32⟩
  | 10 => ⟨S_, .f32⟩
  | 11 => ⟨S4096x200x1, .f32⟩
  | 12 => ⟨S4096x200x1, .f32⟩
  | 13 => ⟨S_, .f32⟩
  | 14 => ⟨S4096x200x1, .f32⟩
  | 15 => ⟨S4096x200x1, .f32⟩
  | 16 => ⟨S_, .f32⟩
  | 17 => ⟨S4096x200x1, .f32⟩
  | 18 => ⟨S4096x200x1, .f32⟩
  | 19 => ⟨S_, .f32⟩
  | 20 => ⟨S4096x200x1, .f32⟩
  | 21 => ⟨S4096x200x1, .f32⟩
  | 22 => ⟨S4096x200x1, .f32⟩
  | 23 => ⟨S4096x200x1, .f32⟩
  | 24 => ⟨S4096x200x1, .f32⟩
  | 25 => ⟨S_, .f32⟩
  | 26 => ⟨S4096x200x1, .f32⟩
  | 27 => ⟨S4096x200x1, .f32⟩
  | 28 => ⟨S_, .f32⟩
  | 29 => ⟨S4096x200x1, .f32⟩
  | 30 => ⟨S4096x200x1, .f32⟩
  | 31 => ⟨S4096x200x1, .f32⟩
  | 32 => ⟨S4096x200x1, .f32⟩
  | 33 => ⟨S4096x200x1, .f32⟩
  | 34 => ⟨S_, .f32⟩
  | 35 => ⟨S4096x200x1, .f32⟩
  | 36 => ⟨S4096x200x1, .f32⟩
  | 37 => ⟨S4096x200x1, .f32⟩
  | 38 => ⟨S4096x200x1, .f32⟩
  | 39 => ⟨S4096x200x1, .f32⟩
  | 40 => ⟨S4096x200x1, .f32⟩
  | 41 => ⟨S_, .f32⟩
  | 42 => ⟨S4096x200x1, .f32⟩
  | 43 => ⟨S4096x200x1, .f32⟩
  | 44 => ⟨S4096x200x1, .f32⟩
  | 45 => ⟨S_, .f32⟩
  | 46 => ⟨S4096x200x1, .f32⟩
  | 47 => ⟨S4096x200x1, .f32⟩
  | 48 => ⟨S4096x200x1, .f32⟩
  | 49 => ⟨S4096x200x1, .f32⟩
  | 50 => ⟨S_, .f32⟩
  | 51 => ⟨S4096x200x1, .f32⟩
  | 52 => ⟨S4096x200x1, .f32⟩
  | 53 => ⟨S4096x200x1, .f32⟩
  | 54 => ⟨S4096x200x1, .f32⟩
  | 55 => ⟨S_, .f32⟩
  | 56 => ⟨S4096x200x1, .f32⟩
  | 57 => ⟨S4096x200x1, .f32⟩
  | 58 => ⟨S4096x200x1, .f32⟩
  | 59 => ⟨S4096x200x1, .f32⟩
  | 60 => ⟨S_, .f32⟩
  | 61 => ⟨S4096x200x1, .f32⟩
  | 62 => ⟨S4096x200x1, .f32⟩
  | 63 => ⟨S4096x200x1, .f32⟩
  | 64 => ⟨S4096x200x1, .f32⟩
  | 65 => ⟨S_, .f32⟩
  | 66 => ⟨S4096x200x1, .f32⟩
  | 67 => ⟨S4096x200x1, .f32⟩
  | 68 => ⟨S4096x200x1, .f32⟩
  | 69 => ⟨S4096x200x1, .f32⟩
  | 70 => ⟨S_, .f32⟩
  | 71 => ⟨S4096x200x1, .f32⟩
  | 72 => ⟨S4096x200x1, .f32⟩
  | 73 => ⟨S4096x200x1, .f32⟩
  | 74 => ⟨S4096x200x1, .f32⟩
  | 75 => ⟨S_, .f32⟩
  | 76 => ⟨S4096x200x1, .f32⟩
  | 77 => ⟨S4096x200x1, .f32⟩
  | 78 => ⟨S4096x200x1, .f32⟩
  | 79 => ⟨S4096x200x1, .f32⟩
  | 80 => ⟨S_, .f32⟩
  | 81 => ⟨S4096x200x1, .f32⟩
  | 82 => ⟨S4096x200x1, .f32⟩
  | 83 => ⟨S4096x200x1, .f32⟩
  | 84 => ⟨S4096x200x1, .f32⟩
  | 85 => ⟨S4096x200x64, .f32⟩
  | 86 => ⟨S4096x200x64, .f32⟩
  | 87 => ⟨S4096x200x64, .f32⟩
  | 88 => ⟨S4096x200x64, .f32⟩
  | _ => ⟨S4096x200, .i32⟩

abbrev hbmTy (i : Nat) : BufTy := match i / 128 with
  | 0 => hbmTy0_0 i
  | 1 => hbmTy0_1 i
  | _ => ⟨S4096x200, .i32⟩

abbrev bufTy : (tb : Table) → Fin (tcTables nBuf tb) → BufTy
  | .hbm, ⟨i, _⟩ => hbmTy i
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v5 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_v6 : Ref sig .tc := ⟨.hbm, 46, rfl⟩
abbrev main_cst_0 : Ref sig .tc := ⟨.hbm, 47, rfl⟩
abbrev main_v7 : Ref sig .tc := ⟨.hbm, 48, rfl⟩
abbrev main_v8 : Ref sig .tc := ⟨.hbm, 49, rfl⟩
abbrev main_cst_1 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_cst_2 : Ref sig .tc := ⟨.hbm, 56, rfl⟩
abbrev main_v14 : Ref sig .tc := ⟨.hbm, 57, rfl⟩
abbrev main_v15 : Ref sig .tc := ⟨.hbm, 58, rfl⟩
abbrev main_cst_3 : Ref sig .tc := ⟨.hbm, 59, rfl⟩
abbrev main_v16 : Ref sig .tc := ⟨.hbm, 60, rfl⟩
abbrev main_v17 : Ref sig .tc := ⟨.hbm, 61, rfl⟩
abbrev main_cst_4 : Ref sig .tc := ⟨.hbm, 62, rfl⟩
abbrev main_v18 : Ref sig .tc := ⟨.hbm, 63, rfl⟩
abbrev main_v19 : Ref sig .tc := ⟨.hbm, 64, rfl⟩
abbrev main_cst_5 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_cst_6 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_cst_7 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_8 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_cst_9 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_cst_10 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_11 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst_12 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_13 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_14 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_15 : Ref sig .tc := ⟨.hbm, 138, rfl⟩
abbrev main_v83 : Ref sig .tc := ⟨.hbm, 139, rfl⟩
abbrev main_v84 : Ref sig .tc := ⟨.hbm, 140, rfl⟩
abbrev main_cst_16 : Ref sig .tc := ⟨.hbm, 141, rfl⟩
abbrev main_v85 : Ref sig .tc := ⟨.hbm, 142, rfl⟩
abbrev main_v86 : Ref sig .tc := ⟨.hbm, 143, rfl⟩
abbrev main_cst_17 : Ref sig .tc := ⟨.hbm, 144, rfl⟩
abbrev main_v87 : Ref sig .tc := ⟨.hbm, 145, rfl⟩
abbrev main_v88 : Ref sig .tc := ⟨.hbm, 146, rfl⟩
abbrev main_cst_18 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_19 : Ref sig .tc := ⟨.hbm, 153, rfl⟩
abbrev main_v94 : Ref sig .tc := ⟨.hbm, 154, rfl⟩
abbrev main_v95 : Ref sig .tc := ⟨.hbm, 155, rfl⟩
abbrev main_cst_20 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_21 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_cst_22 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_cst_23 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_cst_24 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_25 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_cst_26 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_cst_27 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_cst_28 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_cst_29 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_cst_30 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩

abbrev nD : Nat := 1
abbrev τ : Topo := Topo.v7x

variable {F : FTy → Type} [FloatOps F]
-- ==== Proof.Setup.lean ====
/-
  The program as the launch theorem sees it, the arrays the gather call works on, and the value it is to leave:
  output row `r` is the table's row named by index word `r`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program -/

abbrev ΛP : Labels := Pipeline.Sig Λ₀ (Fin 3) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the handshakes' rounds and the transfers' counters -/

abbrev UH : Type := URounds (GSem nD τ sig) ℕ
/-- The pipelines' own rounds. -/
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-- Where the pipelines' rounds lie in it. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

/-! ## The arrays -/

/-- The index list, the table and the output, on device `d`. -/
abbrev iLoc (d : Dev nD) : Loc nD τ sig := (SparseCore.T d).loc main_v4
abbrev tLoc (d : Dev nD) : Loc nD τ sig := (SparseCore.T d).loc main_v1
abbrev oLoc (d : Dev nD) : Loc nD τ sig := (SparseCore.T d).loc main_v5

abbrev iM : Memref sig .scVector .hbm S819200 .i32 := Memref.whole main_v4_scv
abbrev tM : Memref sig .scVector .hbm S100352x128 .f32 := Memref.whole main_v1_scv
abbrev oM : Memref sig .scVector .hbm S819200x128 .f32 := Memref.whole main_v5_scv
abbrev aM : Memref sig .scVector .vmem S800 .i32 := Memref.whole cc2_scoped0
abbrev bM : Memref sig .scVector .vmem S2x400x128 .f32 := Memref.whole cc2_scoped2

/-- The table row a word names (wrapped, so as to be total). -/
def rowOfWord (w : BitVec 32) : Fin 100352 := ⟨w.toNat % 100352, Nat.mod_lt _ (by decide)⟩

/-- What the output is to hold: at row `r`, the table's row that index word `r` names. -/
def G (fi : S819200.Idx → BitVec 32) (ft : S100352x128.Idx → F .f32) : S819200x128.Idx → F .f32 :=
  fun y => ft (ix2 (rowOfWord (fi (ix1 (y 0)))) (y 1))

/-- Every index word names a row of the table. -/
def InRows (fi : S819200.Idx → BitVec 32) : Prop := ∀ x, (fi x).toNat < 100352

/-! ## A tile's thread and its semaphores -/

abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

/-- The index slot's semaphore, and the output slot's. -/
def inSem (s : ℕ) : DmaSem sig := ⟨10 + s % 2, by show 10 + s % 2 < 33; omega⟩
def outSem (s : ℕ) : DmaSem sig := ⟨12 + s % 2, by show 12 + s % 2 < 33; omega⟩

theorem inSem_eq {off : Fin 1 → ℕ} {s : ℕ} (hs : s < 2) (h : off = ![s]) (inb) :
    ((cc2_scoped1.slice (Rect.unit (s := S2) off S1.size inb)).squeeze S_ squeezes_S1_S_).sem = inSem s := by
  subst h
  refine Fin.ext ?_
  show 10 + (S2.rowMajor ((Rect.unit (s := S2) ![s] S1.size inb).emb (Shape.reshapeEquiv squeezes_S1_S_.numel_eq fun i => i.elim0))).val = 10 + s % 2
  rw [Shape.rowMajor_val_one]
  show 10 + (s + 1 * ((Shape.reshapeEquiv squeezes_S1_S_.numel_eq (fun i => i.elim0) : S1.Idx) 0).val) = _
  have := ((Shape.reshapeEquiv squeezes_S1_S_.numel_eq (fun i => i.elim0) : S1.Idx) 0).isLt
  change _ < 1 at this
  omega

theorem outSem_eq {off : Fin 1 → ℕ} {s : ℕ} (hs : s < 2) (h : off = ![s]) (inb) :
    ((cc2_scoped3.slice (Rect.unit (s := S2) off S1.size inb)).squeeze S_ squeezes_S1_S_).sem = outSem s := by
  subst h
  refine Fin.ext ?_
  show 12 + (S2.rowMajor ((Rect.unit (s := S2) ![s] S1.size inb).emb (Shape.reshapeEquiv squeezes_S1_S_.numel_eq fun i => i.elim0))).val = 12 + s % 2
  rw [Shape.rowMajor_val_one]
  show 12 + (s + 1 * ((Shape.reshapeEquiv squeezes_S1_S_.numel_eq (fun i => i.elim0) : S1.Idx) 0).val) = _
  have := ((Shape.reshapeEquiv squeezes_S1_S_.numel_eq (fun i => i.elim0) : S1.Idx) 0).isLt
  change _ < 1 at this
  omega

/-! ## The windows' elements -/

def inSet (s : ℕ) : Finset S800.Idx := Finset.univ.filter fun y => (y 0).val / 400 = s
def obSet (s : ℕ) : Finset S2x400x128.Idx := Finset.univ.filter fun y => (y 0).val = s
def idxSet (b : ℕ) : Finset S819200.Idx := Finset.univ.filter fun y => (y 0).val / 400 = b
def blkSet (b : ℕ) : Finset S819200x128.Idx := Finset.univ.filter fun y => (y 0).val / 400 = b
/-- Tile `w`'s output rows in blocks of parity `s`. -/
def oReg (w s : ℕ) : Finset S819200x128.Idx := Finset.univ.filter fun y => (y 0).val / 25600 = w ∧ (y 0).val / 400 % 2 = s

theorem set_aM {off : Fin 1 → ℕ} {s : ℕ} (h : off = ![400 * s]) (inb) (hst) :
    (aM.slice (Rect.unit (s := S800) off S400.size inb) hst).view.set = inSet s := by
  subst h
  refine (View.set_slice_whole _ _).trans (Finset.ext fun y => ?_)
  rw [Rect.mem_set_unit]
  refine (Fin.forall_fin_one (p := fun a => (![400 * s] : Fin 1 → ℕ) a ≤ (y a).val ∧ (y a).val < (![400 * s] : Fin 1 → ℕ) a + S400.size a)).trans ?_
  simp only [inSet, Finset.mem_filter, Finset.mem_univ, _root_.true_and]
  show 400 * s ≤ (y 0).val ∧ (y 0).val < 400 * s + 400 ↔ _
  omega

theorem set_iM {off : Fin 1 → ℕ} {b : ℕ} (h : off = ![400 * b]) (inb) (hst) :
    (iM.slice (Rect.unit (s := S819200) off S400.size inb) hst).view.set = idxSet b := by
  subst h
  refine (View.set_slice_whole _ _).trans (Finset.ext fun y => ?_)
  rw [Rect.mem_set_unit]
  refine (Fin.forall_fin_one (p := fun a => (![400 * b] : Fin 1 → ℕ) a ≤ (y a).val ∧ (y a).val < (![400 * b] : Fin 1 → ℕ) a + S400.size a)).trans ?_
  simp only [idxSet, Finset.mem_filter, Finset.mem_univ, _root_.true_and]
  show 400 * b ≤ (y 0).val ∧ (y 0).val < 400 * b + 400 ↔ _
  omega

theorem set_bM {off : Fin 3 → ℕ} {s : ℕ} (h : off = ![s, 0, 0]) (inb) (hst) :
    ((bM.slice (Rect.unit (s := S2x400x128) off S1x400x128.size inb) hst).squeeze S400x128 squeezes_S1x400x128_S400x128).view.set = obSet s := by
  subst h
  show (((View.whole _).slice _).reshape _ _).set = _
  rw [View.set_reshape]
  refine (View.set_slice_whole _ _).trans (Finset.ext fun y => ?_)
  rw [Rect.mem_set_unit]
  simp only [obSet, Finset.mem_filter, Finset.mem_univ, _root_.true_and]
  constructor
  · intro h
    have h0 : s ≤ (y 0).val ∧ (y 0).val < s + 1 := h 0
    omega
  · intro h a
    have hb : ∀ a, (y a).val < S2x400x128.size a := fun a => (y a).isLt
    match a with
    | 0 => show s ≤ (y 0).val ∧ (y 0).val < s + 1; omega
    | 1 => show 0 ≤ (y 1).val ∧ (y 1).val < 0 + 400; have : (y 1).val < 400 := hb 1; omega
    | 2 => show 0 ≤ (y 2).val ∧ (y 2).val < 0 + 128; have : (y 2).val < 128 := hb 2; omega

theorem set_oM {off : Fin 2 → ℕ} {b : ℕ} (h : off = ![400 * b, 0]) (inb) (hst) :
    (oM.slice (Rect.unit (s := S819200x128) off S400x128.size inb) hst).view.set = blkSet b := by
  subst h
  refine (View.set_slice_whole _ _).trans (Finset.ext fun y => ?_)
  rw [Rect.mem_set_unit]
  simp only [blkSet, Finset.mem_filter, Finset.mem_univ, _root_.true_and]
  constructor
  · intro h
    have h0 : 400 * b ≤ (y 0).val ∧ (y 0).val < 400 * b + 400 := h 0
    omega
  · intro h a
    match a with
    | 0 => show 400 * b ≤ (y 0).val ∧ (y 0).val < 400 * b + 400; omega
    | 1 => show 0 ≤ (y 1).val ∧ (y 1).val < 0 + 128; have : (y 1).val < 128 := (y 1).isLt; omega

theorem set_tM (inb) (hst) :
    (tM.slice (Rect.unit (s := S100352x128) ![0, 0] S100352x128.size inb) hst).view.set = Finset.univ := by
  refine (View.set_slice_whole _ _).trans (Finset.ext fun y => ?_)
  rw [Rect.mem_set_unit]
  simp only [Finset.mem_univ, iff_true]
  intro a
  match a with
  | 0 => show 0 ≤ (y 0).val ∧ (y 0).val < 0 + 100352; have : (y 0).val < 100352 := (y 0).isLt; omega
  | 1 => show 0 ≤ (y 1).val ∧ (y 1).val < 0 + 128; have : (y 1).val < 128 := (y 1).isLt; omega

theorem blkSet_subset {w t : ℕ} (ht : t < 64) : blkSet (64 * w + t) ⊆ oReg w (t % 2) := by
  intro y
  simp only [blkSet, oReg, Finset.mem_filter, Finset.mem_univ, _root_.true_and]
  omega

/-! ## What the copies leave, element by element -/

/-- An index block fetched into a slot: each word of the slot is the block's. -/
theorem fetched {off off' : Fin 1 → ℕ} {s b : ℕ} (h : off = ![400 * s]) (h' : off' = ![400 * b]) (inb inb') (hst hst')
    (fi : S819200.Idx → Elt F .i32) (fa : S800.Idx → Elt F .i32) (y : S800.Idx) (hy : y ∈ inSet s)
    (hb : 400 * b + (y 0).val % 400 < 819200) :
    (aM.slice (Rect.unit (s := S800) off S400.size inb) hst).view.write (Elt F) fa
      ((iM.slice (Rect.unit (s := S819200) off' S400.size inb') hst').view.read (Elt F) fi) Finset.univ y
      = fi (ix1 ⟨400 * b + (y 0).val % 400, hb⟩) := by
  subst h h'
  simp only [inSet, Finset.mem_filter, Finset.mem_univ, _root_.true_and] at hy
  have hx : (aM.slice (Rect.unit (s := S800) ![400 * s] S400.size inb) hst).view.emb (ix1 ⟨(y 0).val % 400, Nat.mod_lt _ (by decide)⟩) = y := by
    funext a; match a with
    | 0 => refine Fin.ext ?_; show 400 * s + 1 * ((y 0).val % 400) = (y 0).val; omega
  conv_lhs => rw [← hx]
  refine (View.write_emb_of_mem _ _ (Finset.mem_univ _)).trans ?_
  refine congrArg fi (funext fun a => ?_)
  match a with
  | 0 => refine Fin.ext ?_; show 400 * b + 1 * ((y 0).val % 400) = 400 * b + (y 0).val % 400; omega

/-- A gathered block: each element is the table's at the row its word names. -/
theorem gathered {off : Fin 1 → ℕ} {off' : Fin 3 → ℕ} {s s' : ℕ} (h : off = ![400 * s]) (h' : off' = ![s', 0, 0]) (inb inb' inbt) (hst hst' hstt)
    (ft : S100352x128.Idx → Elt F .f32) (fa : S800.Idx → Elt F .i32) (fb : S2x400x128.Idx → Elt F .f32) (hn) (hin)
    (y : S2x400x128.Idx) (hy : y ∈ obSet s') (hb : 400 * s + (y 1).val < 800) :
    ((bM.slice (Rect.unit (s := S2x400x128) off' S1x400x128.size inb') hst').squeeze S400x128 squeezes_S1x400x128_S400x128).view.write (Elt F) fb
      (SparseCore.gatherPayload gathers_S100352x128_S400x128
        ((tM.slice (Rect.unit (s := S100352x128) ![0, 0] S100352x128.size inbt) hstt).view.read (Elt F) ft)
        (SparseCore.rows ((aM.slice (Rect.unit (s := S800) off S400.size inb) hst).view.read (Elt F) fa) hn hin)) Finset.univ y
      = ft (ix2 (rowOfWord (fa (ix1 ⟨400 * s + (y 1).val, hb⟩))) (y 2)) := by
  subst h h'
  simp only [obSet, Finset.mem_filter, Finset.mem_univ, _root_.true_and] at hy
  have hlt : ∀ j, ((aM.slice (Rect.unit (s := S800) ![400 * s] S400.size inb) hst).view.read (Elt F) fa j).toNat < 100352 := hin
  obtain ⟨r, hr⟩ : ∃ r : Fin 400, r.val = (y 1).val := ⟨⟨(y 1).val, (y 1).isLt⟩, rfl⟩
  obtain ⟨l, hl⟩ : ∃ l : Fin 128, l.val = (y 2).val := ⟨⟨(y 2).val, (y 2).isLt⟩, rfl⟩
  have hx : ((bM.slice (Rect.unit (s := S2x400x128) ![s', 0, 0] S1x400x128.size inb') hst').squeeze S400x128 squeezes_S1x400x128_S400x128).view.emb
      (ix2 r l) = y := by
    refine (congrArg (Rect.unit (s := S2x400x128) ![s', 0, 0] S1x400x128.size inb').emb (reshapeEquiv_ix2_1ab (a := 400) (b := 128)
      squeezes_S1x400x128_S400x128.numel_eq r l)).trans ?_
    funext a; match a with
    | 0 => refine Fin.ext ?_; show s' + 1 * 0 = (y 0).val; omega
    | 1 => refine Fin.ext ?_; show 0 + 1 * r.val = (y 1).val; omega
    | 2 => refine Fin.ext ?_; show 0 + 1 * l.val = (y 2).val; omega
  conv_lhs => rw [← hx]
  refine (View.write_emb_of_mem _ _ (Finset.mem_univ _)).trans ?_
  refine congrArg ft (funext fun a => Fin.ext ?_)
  match a with
  | 0 =>
    show 0 + 1 * (gathers_S100352x128_S400x128.idx _ (ix2 r l) gathers_S100352x128_S400x128.axis).val = _
    rw [Shape.Gathers.idx_axis]
    have hj : (S400.rowMajor.symm ((r : Fin 400).cast hn.symm) 0).val = r.val := by
      rw [← Shape.rowMajor_val_one (d := ![400]), Equiv.apply_symm_apply]; rfl
    have he : (aM.slice (Rect.unit (s := S800) ![400 * s] S400.size inb) hst).view.emb (S400.rowMajor.symm ((r : Fin 400).cast hn.symm))
        = ix1 ⟨400 * s + (y 1).val, hb⟩ := by
      funext a; match a with
      | 0 => refine Fin.ext ?_; show 400 * s + 1 * (S400.rowMajor.symm ((r : Fin 400).cast hn.symm) 0).val = 400 * s + (y 1).val; omega
    show 0 + 1 * (fa ((aM.slice (Rect.unit (s := S800) ![400 * s] S400.size inb) hst).view.emb (S400.rowMajor.symm ((r : Fin 400).cast hn.symm)))).toNat
      = (fa (ix1 ⟨400 * s + (y 1).val, hb⟩)).toNat % 100352
    have hl := hlt (S400.rowMajor.symm ((r : Fin 400).cast hn.symm))
    change (fa ((aM.slice (Rect.unit (s := S800) ![400 * s] S400.size inb) hst).view.emb (S400.rowMajor.symm ((r : Fin 400).cast hn.symm)))).toNat < 100352 at hl
    rw [he] at hl ⊢
    rw [Nat.mod_eq_of_lt hl]; omega
  | 1 =>
    show 0 + 1 * (gathers_S100352x128_S400x128.idx _ (ix2 r l) 1).val = (y 2).val
    rw [Shape.Gathers.idx_of_ne _ _ _ _ (by decide)]
    show 0 + 1 * l.val = _
    omega

/-- A block sent to the output: each element is the slot's. -/
theorem sent {off : Fin 2 → ℕ} {off' : Fin 3 → ℕ} {b s : ℕ} (h : off = ![400 * b, 0]) (h' : off' = ![s, 0, 0]) (hs : s < 2) (inb inb') (hst hst')
    (fb : S2x400x128.Idx → Elt F .f32) (fo : S819200x128.Idx → Elt F .f32) (y : S819200x128.Idx) (hy : y ∈ blkSet b) :
    (oM.slice (Rect.unit (s := S819200x128) off S400x128.size inb) hst).view.write (Elt F) fo
      (((bM.slice (Rect.unit (s := S2x400x128) off' S1x400x128.size inb') hst').squeeze S400x128 squeezes_S1x400x128_S400x128).view.read (Elt F) fb)
      Finset.univ y = fb (ix3 ⟨s, hs⟩ ⟨(y 0).val % 400, Nat.mod_lt _ (by decide)⟩ (y 1)) := by
  subst h h'
  simp only [blkSet, Finset.mem_filter, Finset.mem_univ, _root_.true_and] at hy
  obtain ⟨l, hl⟩ : ∃ l : Fin 128, l.val = (y 1).val := ⟨⟨(y 1).val, (y 1).isLt⟩, rfl⟩
  have hx : (oM.slice (Rect.unit (s := S819200x128) ![400 * b, 0] S400x128.size inb) hst).view.emb
      (ix2 (⟨(y 0).val % 400, Nat.mod_lt _ (by decide)⟩ : Fin 400) l) = y := by
    funext a; match a with
    | 0 => refine Fin.ext ?_; show 400 * b + 1 * ((y 0).val % 400) = (y 0).val; omega
    | 1 => refine Fin.ext ?_; show 0 + 1 * l.val = (y 1).val; omega
  conv_lhs => rw [← hx]
  refine (View.write_emb_of_mem _ _ (Finset.mem_univ _)).trans ?_
  refine congrArg fb ?_
  refine (congrArg (Rect.unit (s := S2x400x128) ![s, 0, 0] S1x400x128.size inb').emb (reshapeEquiv_ix2_1ab (a := 400) (b := 128)
    squeezes_S1x400x128_S400x128.numel_eq (⟨(y 0).val % 400, Nat.mod_lt _ (by decide)⟩ : Fin 400) l)).trans ?_
  funext a; match a with
  | 0 => refine Fin.ext ?_; show s + 1 * 0 = s; omega
  | 1 => refine Fin.ext ?_; show 0 + 1 * ((y 0).val % 400) = (y 0).val % 400; omega
  | 2 => refine Fin.ext ?_; show 0 + 1 * l.val = (y 1).val; omega

/-- Elements outside the block keep what they had. -/
theorem sent_off {off : Fin 2 → ℕ} {b : ℕ} (h : off = ![400 * b, 0]) (inb) (hst)
    (w) (fo : S819200x128.Idx → Elt F .f32) (y : S819200x128.Idx) (hy : y ∉ blkSet b) :
    (oM.slice (Rect.unit (s := S819200x128) off S400x128.size inb) hst).view.write (Elt F) fo w Finset.univ y = fo y :=
  View.write_of_not_mem _ _ _ (by rw [View.setOn_univ, set_oM h]; exact hy)

end Cert.Proof.Gather

end
-- ==== Proof.Steps.lean ====
/-
  The gather kernel's transfers and waits, one lemma each, over the slot (`0` or `1`) and the block they work on:
  an index block asked for and waited for, a block of rows gathered, a block sent and waited for.
-/
module

public import proofs.«01_k».proof.Proof.Setup

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (L : grid2.Coords)

abbrev aLoc : Loc nD τ sig := (thr d L).loc cc2_scoped0
abbrev bLoc : Loc nD τ sig := (thr d L).loc cc2_scoped2

/-- What an index block's transfer and an output block's credit their semaphores. -/
def nIn : ℕ := (aM.slice (Rect.unit (s := S800) k2_off1 S400.size k2_off1_inb) (fun _ => rfl)).view.dmaCredit
def nOut : ℕ := sig.dmaCredit .scVector .hbm main_v5_scv.idx S400x128 .f32
def nGat : ℕ := sig.dmaCredit .scVector (Kind.scVector.table .vmem) cc2_scoped2.idx S400x128 .f32

variable (fi : Buf (Elt F) (iLoc d)) (ft : Buf (Elt F) (tLoc d))

/-- The index slot `s` holds block `b`'s words. -/
def Holds (fi : S819200.Idx → BitVec 32) (s b : ℕ) (fa : S800.Idx → BitVec 32) : Prop :=
  ∀ y ∈ inSet s, ∀ hb : 400 * b + (y 0).val % 400 < 819200, fa y = fi (ix1 ⟨400 * b + (y 0).val % 400, hb⟩)

/-- The output slot `s` holds block `b`'s rows. -/
def HoldsOut (fi : S819200.Idx → BitVec 32) (ft : S100352x128.Idx → F .f32) (s b : ℕ) (fb : S2x400x128.Idx → F .f32) : Prop :=
  ∀ y ∈ obSet s, ∀ hb : 400 * b + (y 1).val < 819200, fb y = G fi ft (ix2 ⟨400 * b + (y 1).val, hb⟩ (y 2))

/-- Tile `w`'s output rows of parity `s`, those of its first `n` blocks as they are to be. -/
def Done (fi : S819200.Idx → BitVec 32) (ft : S100352x128.Idx → F .f32) (w s n : ℕ) (fo : S819200x128.Idx → F .f32) : Prop :=
  ∀ y ∈ oReg w s, (y 0).val / 400 < 64 * w + n → fo y = G fi ft y

/-- An index slot idle, with the share of the index list it reads by. -/
def InFree (q : PosShare TreeShare) (s : ℕ) : sProp 𝕄 :=
  iprop((∃ f : Buf (Elt F) (aLoc d L), aLoc d L ↦[inSet s]{fullShare} f) ∗ semVal (thr d L, .dma (inSem s)) 0 ∗ iLoc d ↦{q} fi)

/-- An index slot with block `b` on its way to it. -/
def InFlight (q : PosShare TreeShare) (s b : ℕ) : sProp 𝕄 :=
  iprop(Transfers.Flight countersEmb (thr d L) (.dma (inSem s)) (default : HIx 1) nIn
      iprop(∃ f : Buf (Elt F) (aLoc d L), ⌜Holds fi s b f⌝ ∗ (aLoc d L ↦[inSet s]{fullShare} f) ∗ iLoc d ↦[idxSet b]{q} fi)
    ∗ iLoc d ↦[Finset.univ \ idxSet b]{q} fi)

/-- An output slot idle, with the rows of the output it sends to. -/
def OutFree (w s n : ℕ) : sProp 𝕄 :=
  iprop((∃ f : Buf (Elt F) (bLoc d L), bLoc d L ↦[obSet s]{fullShare} f) ∗ semVal (thr d L, .dma (outSem s)) 0
    ∗ ∃ fo : Buf (Elt F) (oLoc d), ⌜Done fi ft w s n fo⌝ ∗ oLoc d ↦[oReg w s]{fullShare} fo)

/-- An output slot with its block on its way out, after which the first `n` blocks are as they are to be. -/
def OutFlight (w s n : ℕ) : sProp 𝕄 :=
  Transfers.Flight countersEmb (thr d L) (.dma (outSem s)) (default : HIx 1) nOut
    iprop((∃ f : Buf (Elt F) (bLoc d L), bLoc d L ↦[obSet s]{fullShare} f)
      ∗ ∃ fo : Buf (Elt F) (oLoc d), ⌜Done fi ft w s n fo⌝ ∗ oLoc d ↦[oReg w s]{fullShare} fo)

/-- A block asked for. -/
theorem step_fetch {q : PosShare TreeShare} {offA offI offS : Fin 1 → ℕ} {s b : ℕ} (hs : s < 2) (hA : offA = ![400 * s])
    (hI : offI = ![400 * b]) (hS : offS = ![s]) (inbA inbI inbS) (hstA hstI) (hw1 hw2 hty) {Q : PUnit → sProp 𝕄} :
    InFree d L fi q s ⊢ iprop((InFlight d L fi q s b -∗ Q ⟨⟩)
      -∗ wp frame (wpE (defs₀ (F := F)) 𝒱₀ (thr d L) none) Set.univ
        (Prog.lift (.enqueueDma (iM.slice (Rect.unit (s := S819200) offI S400.size inbI) hstI)
          (.here (aM.slice (Rect.unit (s := S800) offA S400.size inbA) hstA))
          (.dma ((cc2_scoped1.slice (Rect.unit (s := S2) offS S1.size inbS)).squeeze S_ squeezes_S1_S_).sem) hw1 hw2 hty)) Q) := by
  have hsem := inSem_eq hs hS inbS
  have hsA := set_aM hA inbA hstA
  have hsI := set_iM hI inbI hstI
  unfold InFree InFlight
  rw [← hsem, ← hsA, ← hsI]
  iintro ⟨⟨%f, Ha⟩, Hs, Hi⟩ Hk
  ihave Hi := (pointsTo_split_subset (q := q) (f := fi) (S := Finset.univ) (Finset.subset_univ
    (iM.slice (Rect.unit (s := S819200) offI S400.size inbI) hstI).view.set)).1 $$ Hi
  icases Hi with ⟨Hi, Hr⟩
  iapply (Transfers.wp_dmaLocal countersEmb 𝒱₀ (thr d L) none (default : HIx 1) nIn rfl
    (View.dmaCredit_pos _ (by decide)) (Finset.Subset.refl _)) $$ [Hi Ha Hs]
  · isplitl [Hi]; · iexact Hi
    isplitl [Ha]; · iexact Ha
    iexact Hs
  iintro Hf
  rw [wp_ret]
  imodintro
  iapply Hk
  isplitr [Hr]; swap
  · iexact Hr
  iapply (Transfers.Flight_mono countersEmb (thr d L) ?_) $$ Hf
  iintro ⟨Ha, Hi⟩
  iexists _
  isplitr; swap
  · isplitl [Ha]; · iexact Ha
    iexact Hi
  ipureintro
  intro y hy hb
  exact fetched hA hI inbA inbI hstA hstI fi f y hy hb

/-- What a tile owes its own waits: nothing new but the waits themselves. -/
def Owe (O : CellTallies nD τ sig (HIx 1)) (W : Waits sig (HIx 1)) : sProp 𝕄 :=
  iprop(∃ W', ⌜∀ p ∈ W', p ∈ W ∨ p.2 = none⌝ ∗ owes (thr d L) O W')

theorem owe_insert {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with hp | hp
  · exact .inr (hp ▸ rfl)
  · exact h p hp

/-- A block waited for: the slot holds it, its semaphore at zero, the index list's share whole again. -/
theorem step_waitIn {q : PosShare TreeShare} {offA offI offS : Fin 1 → ℕ} {s b : ℕ} (hs : s < 2) (hS : offS = ![s])
    (inbA inbI inbS) (hstA hstI) (hw1 hw2) (O : CellTallies nD τ sig (HIx 1)) (W : Waits sig (HIx 1)) {Q : PUnit → sProp 𝕄} :
    iprop(InFlight d L fi q s b ∗ Transfers.MayWaits (thr d L) (default : HIx 1) O ∗ Owe d L O W) ⊢ iprop(
      (iprop((∃ f : Buf (Elt F) (aLoc d L), ⌜Holds fi s b f⌝ ∗ aLoc d L ↦[inSet s]{fullShare} f)
          ∗ semVal (thr d L, .dma (inSem s)) 0 ∗ (iLoc d ↦{q} fi) ∗ Owe d L O W) -∗ Q ⟨⟩)
      -∗ wp frame (wpE (defs₀ (F := F)) 𝒱₀ (thr d L) none) Set.univ
        (Prog.lift (.waitDma2 ((cc2_scoped1.slice (Rect.unit (s := S2) offS S1.size inbS)).squeeze S_ squeezes_S1_S_).sem
          (iM.slice (Rect.unit (s := S819200) offI S400.size inbI) hstI)
          (aM.slice (Rect.unit (s := S800) offA S400.size inbA) hstA) hw1 hw2)) Q) := by
  have hsem := inSem_eq hs hS inbS
  unfold InFlight Owe
  rw [← hsem]
  iintro ⟨⟨Hf, Hr⟩, #Hmw, ⟨%W', %hW', HO⟩⟩ Hk
  iapply (Transfers.wp_waitLocalO countersEmb 𝒱₀ (thr d L) none (default : HIx 1)
    (show (aM.slice (Rect.unit (s := S800) offA S400.size inbA) hstA).view.dmaCredit = nIn from rfl)) $$ [Hf HO]
  · isplitl [Hf]; · iexact Hf
    isplitl [HO]; · iexact HO
    iapply (Transfers.MayWaits.elim (SemLoc.dma ((cc2_scoped1.slice (Rect.unit (s := S2) offS S1.size inbS)).squeeze S_ squeezes_S1_S_).sem)) $$ Hmw
  iintro ⟨⟨%f, %hf, Ha, Hi⟩, Hs, HO⟩
  rw [wp_ret]
  imodintro
  iapply Hk
  isplitl [Ha]
  · iexists f; isplitr
    · ipureintro; exact hf
    · iexact Ha
  isplitl [Hs]; · iexact Hs
  isplitl [Hi Hr]
  · iapply (pointsTo_split_subset (q := q) (f := fi) (S := Finset.univ) (Finset.subset_univ (idxSet b))).2
    isplitl [Hi] <;> iassumption
  iexists _; isplitr; swap
  · iexact HO
  ipureintro; exact owe_insert hW' _

/-- A block gathered and waited for: the output slot holds its rows. -/
theorem step_gather {q : PosShare TreeShare} (hrows : InRows fi) {offA : Fin 1 → ℕ} {offB offB' : Fin 3 → ℕ} {s b : ℕ} (hs : s < 2) (hbk : b < 2048)
    (hA : offA = ![400 * s]) (hB : offB = ![s, 0, 0]) (inbA inbB inbB') (hstA hstB hstB')
    (inbT) (hstT) (hp hn hw he hsp hr hw1 hw2) (O : CellTallies nD τ sig (HIx 1)) (W : Waits sig (HIx 1)) {Q : PUnit → sProp 𝕄} :
    iprop((∃ f : Buf (Elt F) (aLoc d L), ⌜Holds fi s b f⌝ ∗ aLoc d L ↦[inSet s]{fullShare} f)
        ∗ (∃ f : Buf (Elt F) (bLoc d L), bLoc d L ↦[obSet s]{fullShare} f)
        ∗ (tLoc d ↦{q} ft) ∗ semVal (thr d L, .dma cc2_scoped4.sem) 0
        ∗ Transfers.MayWaits (thr d L) (default : HIx 1) O ∗ Owe d L O W) ⊢ iprop(
      (iprop((∃ f : Buf (Elt F) (aLoc d L), aLoc d L ↦[inSet s]{fullShare} f)
          ∗ (∃ f : Buf (Elt F) (bLoc d L), ⌜HoldsOut fi ft s b f⌝ ∗ bLoc d L ↦[obSet s]{fullShare} f)
          ∗ (tLoc d ↦{q} ft) ∗ semVal (thr d L, .dma cc2_scoped4.sem) 0 ∗ Owe d L O W) -∗ Q ⟨⟩)
      -∗ wp frame (wpE (defs₀ (F := F)) 𝒱₀ (thr d L) none) Set.univ
        (SparseCore.enqueueIndirectGather hp
            (tM.slice (Rect.unit (s := S100352x128) ![0, 0] S100352x128.size inbT) hstT)
            ((bM.slice (Rect.unit (s := S2x400x128) offB S1x400x128.size inbB) hstB).squeeze S400x128 squeezes_S1x400x128_S400x128)
            gathers_S100352x128_S400x128
            (aM.slice (Rect.unit (s := S800) offA S400.size inbA) hstA) hn cc2_scoped4.sem hw he hsp hr
          >>= fun _ => SparseCore.waitIndirectGather cc2_scoped4.sem
            (tM.slice (Rect.unit (s := S100352x128) ![0, 0] S100352x128.size inbT) hstT)
            ((bM.slice (Rect.unit (s := S2x400x128) offB' S1x400x128.size inbB') hstB').squeeze S400x128 squeezes_S1x400x128_S400x128) hw1 hw2) Q) := by
  have hsA := set_aM hA inbA hstA
  have hsB := set_bM hB inbB hstB
  unfold Owe
  rw [← hsA, ← hsB]
  iintro ⟨⟨%fa, %hfa, Ha⟩, ⟨%fb, Hb⟩, Ht, Hs, #Hmw, ⟨%W', %hW', HO⟩⟩ Hk
  have hin : ∀ x, ((aM.slice (Rect.unit (s := S800) offA S400.size inbA) hstA).view.read (Elt F) fa x).toNat
      < S100352x128.size gathers_S100352x128_S400x128.axis := by
    intro x
    have hm : (aM.slice (Rect.unit (s := S800) offA S400.size inbA) hstA).view.emb x ∈ inSet s := hsA ▸ View.emb_mem_set _ x
    have h := hfa _ hm (by omega)
    show (fa ((aM.slice (Rect.unit (s := S800) offA S400.size inbA) hstA).view.emb x)).toNat < 100352
    rw [h]; exact hrows _
  ihave Ht := (Entails.of_eq (show (tLoc d ↦{q} ft : sProp 𝕄)
      = (tM.slice (Rect.unit (s := S100352x128) ![0, 0] S100352x128.size inbT) hstT).view.loc (thr d L)
        ↦[(tM.slice (Rect.unit (s := S100352x128) ![0, 0] S100352x128.size inbT) hstT).view.set]{q} ft by rw [set_tM])) $$ Ht
  have hN : ∑ j, (((bM.slice (Rect.unit (s := S2x400x128) offB S1x400x128.size inbB) hstB).squeeze S400x128 squeezes_S1x400x128_S400x128).slice
      (S400x128.rowRect gathers_S100352x128_S400x128.axis' j) (S400x128.stride_rowRect gathers_S100352x128_S400x128.axis' j)).view.dmaCredit = nGat := by
    show ∑ j : Fin 400, sig.dmaCredit .scVector (Kind.scVector.table .vmem) cc2_scoped2.idx (S400x128.rowRect gathers_S100352x128_S400x128.axis' j).shape .f32 = nGat
    decide
  iapply (SparseCore.wp_indirectGatherLocal countersEmb 𝒱₀ (thr d L) none (hg := gathers_S100352x128_S400x128) (default : HIx 1)
      nGat hN (by decide) hin) $$ [Ht Hb Ha Hs]
  · isplitl [Ht]; · iexact Ht
    isplitl [Hb]; · iexact Hb
    isplitl [Ha]; · iexact Ha
    iexact Hs
  iintro Hf
  iapply (Transfers.wp_waitLocalO countersEmb 𝒱₀ (thr d L) none (default : HIx 1)
    (show ((bM.slice (Rect.unit (s := S2x400x128) offB' S1x400x128.size inbB') hstB').squeeze S400x128 squeezes_S1x400x128_S400x128).view.dmaCredit = nGat from rfl)) $$ [Hf HO]
  · isplitl [Hf]; · iexact Hf
    isplitl [HO]; · iexact HO
    iapply (Transfers.MayWaits.elim (SemLoc.dma cc2_scoped4.sem)) $$ Hmw
  iintro ⟨⟨Hb, Ht, Ha⟩, Hs, HO⟩
  rw [wp_ret]
  imodintro
  iapply Hk
  isplitl [Ha]; · iexists fa; iexact Ha
  isplitl [Hb]
  · iexists _; isplitr; swap
    · iexact Hb
    ipureintro
    intro y hy hb
    have h1 : (y 1).val < 400 := (y 1).isLt
    have hm : (ix1 ⟨400 * s + (y 1).val, by omega⟩ : S800.Idx) ∈ inSet s := by
      simp only [inSet, Finset.mem_filter, Finset.mem_univ, _root_.true_and]
      show (400 * s + (y 1).val) / 400 = s
      omega
    refine (gathered hA hB inbA inbB inbT hstA hstB hstT ft fa fb hn hin y hy (by omega)).trans ?_
    have hw := hfa _ hm (by show 400 * b + (400 * s + (y 1).val) % 400 < 819200; omega)
    rw [hw]
    unfold G
    refine congrArg ft (congrArg (fun r => ix2 (rowOfWord (fi r)) (y 2)) (funext fun a => ?_))
    match a with
    | 0 => refine Fin.ext ?_; show 400 * b + (400 * s + (y 1).val) % 400 = 400 * b + (y 1).val; omega
  isplitl [Ht]
  · iapply (Entails.of_eq (show ((tM.slice (Rect.unit (s := S100352x128) ![0, 0] S100352x128.size inbT) hstT).view.loc (thr d L)
        ↦[(tM.slice (Rect.unit (s := S100352x128) ![0, 0] S100352x128.size inbT) hstT).view.set]{q} ft : sProp 𝕄) = (tLoc d ↦{q} ft) by rw [set_tM]))
    iexact Ht
  isplitl [Hs]; · iexact Hs
  iexists _; isplitr; swap
  · iexact HO
  ipureintro; exact owe_insert hW' _

/-- A block sent: once it lands, the tile's rows of its parity are as they are to be up to and with it. -/
theorem step_send {offB : Fin 3 → ℕ} {offO : Fin 2 → ℕ} {offS : Fin 1 → ℕ} {w s t : ℕ} (ht : t < 64) (hw : w < 32) (hst2 : t % 2 = s)
    (hB : offB = ![s, 0, 0]) (hO : offO = ![400 * (64 * w + t), 0]) (hS : offS = ![s])
    (inbB inbO inbS) (hstB hstO) (hw1 hw2 hty) {Q : PUnit → sProp 𝕄} :
    iprop((∃ f : Buf (Elt F) (bLoc d L), ⌜HoldsOut fi ft s (64 * w + t) f⌝ ∗ bLoc d L ↦[obSet s]{fullShare} f)
      ∗ semVal (thr d L, .dma (outSem s)) 0
      ∗ ∃ fo : Buf (Elt F) (oLoc d), ⌜Done fi ft w s t fo⌝ ∗ oLoc d ↦[oReg w s]{fullShare} fo) ⊢ iprop(
      (OutFlight d L fi ft w s (t + 1) -∗ Q ⟨⟩)
      -∗ wp frame (wpE (defs₀ (F := F)) 𝒱₀ (thr d L) none) Set.univ
        (Prog.lift (.enqueueDma ((bM.slice (Rect.unit (s := S2x400x128) offB S1x400x128.size inbB) hstB).squeeze S400x128 squeezes_S1x400x128_S400x128)
          (.here (oM.slice (Rect.unit (s := S819200x128) offO S400x128.size inbO) hstO))
          (.dma ((cc2_scoped3.slice (Rect.unit (s := S2) offS S1.size inbS)).squeeze S_ squeezes_S1_S_).sem) hw1 hw2 hty)) Q) := by
  have hs : s < 2 := by omega
  have hsem := outSem_eq hs hS inbS
  have hsB := set_bM hB inbB hstB
  have hsO := set_oM hO inbO hstO
  have hsub : (oM.slice (Rect.unit (s := S819200x128) offO S400x128.size inbO) hstO).view.set ⊆ oReg w s := by
    rw [hsO]; exact hst2 ▸ blkSet_subset ht
  unfold OutFlight
  rw [← hsem, ← hsB]
  iintro ⟨⟨%fb, %hfb, Hb⟩, Hs, ⟨%fo, %hfo, Ho⟩⟩ Hk
  iapply (Transfers.wp_dmaLocal countersEmb 𝒱₀ (thr d L) none (default : HIx 1) nOut rfl
    (View.dmaCredit_pos (oM.slice (Rect.unit (s := S819200x128) offO S400x128.size inbO) hstO).view (show 0 < S400x128.numel by decide)) hsub) $$ [Hb Ho Hs]
  · isplitl [Hb]; · iexact Hb
    isplitl [Ho]; · iexact Ho
    iexact Hs
  iintro Hf
  rw [wp_ret]
  imodintro
  iapply Hk
  iapply (Transfers.Flight_mono countersEmb (thr d L) ?_) $$ Hf
  iintro ⟨Ho, Hb⟩
  isplitl [Hb]; · iexists fb; iexact Hb
  iexists _; isplitr; swap
  · iexact Ho
  ipureintro
  intro y hy hlt
  by_cases hm : y ∈ blkSet (64 * w + t)
  · refine (sent hO hB hs inbO inbB hstO hstB fb fo y hm).trans ?_
    simp only [blkSet, Finset.mem_filter, Finset.mem_univ, _root_.true_and] at hm
    have hy0 : (y 0).val < 819200 := (y 0).isLt
    refine (hfb _ (by simp only [obSet, Finset.mem_filter, Finset.mem_univ, _root_.true_and]) (by show 400 * (64 * w + t) + (y 0).val % 400 < 819200; omega)).trans ?_
    refine congrArg (G fi ft) (funext fun a => ?_)
    match a with
    | 0 => refine Fin.ext ?_; show 400 * (64 * w + t) + (y 0).val % 400 = (y 0).val; omega
    | 1 => rfl
  · refine (sent_off hO inbO hstO _ fo y hm).trans (hfo y hy ?_)
    simp only [blkSet, Finset.mem_filter, Finset.mem_univ, _root_.true_and] at hm
    omega

/-- A sent block waited for: its slot is idle again. -/
theorem step_waitOut {offB : Fin 3 → ℕ} {offO : Fin 2 → ℕ} {offS : Fin 1 → ℕ} {w s n : ℕ} (hs : s < 2) (hS : offS = ![s])
    (inbB inbO inbS) (hstB hstO) (hw1 hw2) (O : CellTallies nD τ sig (HIx 1)) (W : Waits sig (HIx 1)) {Q : PUnit → sProp 𝕄} :
    iprop(OutFlight d L fi ft w s n ∗ Transfers.MayWaits (thr d L) (default : HIx 1) O ∗ Owe d L O W) ⊢ iprop(
      (iprop(OutFree d L fi ft w s n ∗ Owe d L O W) -∗ Q ⟨⟩)
      -∗ wp frame (wpE (defs₀ (F := F)) 𝒱₀ (thr d L) none) Set.univ
        (Prog.lift (.waitDma2 ((cc2_scoped3.slice (Rect.unit (s := S2) offS S1.size inbS)).squeeze S_ squeezes_S1_S_).sem
          ((bM.slice (Rect.unit (s := S2x400x128) offB S1x400x128.size inbB) hstB).squeeze S400x128 squeezes_S1x400x128_S400x128)
          (oM.slice (Rect.unit (s := S819200x128) offO S400x128.size inbO) hstO) hw1 hw2)) Q) := by
  have hsem := outSem_eq hs hS inbS
  unfold OutFlight OutFree Owe
  rw [← hsem]
  iintro ⟨Hf, #Hmw, ⟨%W', %hW', HO⟩⟩ Hk
  iapply (Transfers.wp_waitLocalO countersEmb 𝒱₀ (thr d L) none (default : HIx 1)
    (show (oM.slice (Rect.unit (s := S819200x128) offO S400x128.size inbO) hstO).view.dmaCredit = nOut from rfl)) $$ [Hf HO]
  · isplitl [Hf]; · iexact Hf
    isplitl [HO]; · iexact HO
    iapply (Transfers.MayWaits.elim (SemLoc.dma ((cc2_scoped3.slice (Rect.unit (s := S2) offS S1.size inbS)).squeeze S_ squeezes_S1_S_).sem)) $$ Hmw
  iintro ⟨⟨Hb, Ho⟩, Hs, HO⟩
  rw [wp_ret]
  imodintro
  iapply Hk
  isplitr [HO]
  · isplitl [Hb]; · iexact Hb
    isplitl [Hs]; · iexact Hs
    iexact Ho
  iexists _; isplitr; swap
  · iexact HO
  ipureintro; exact owe_insert hW' _

/-- An idle output slot with the rows of the other parity counted: a block of one parity is no block of the other. -/
theorem Done.succ {fi : S819200.Idx → BitVec 32} {ft : S100352x128.Idx → F .f32} {w s n : ℕ} {fo} (h : Done fi ft w s n fo) (hn : n % 2 ≠ s) :
    Done fi ft w s (n + 1) fo := by
  intro y hy hlt
  refine h y hy ?_
  simp only [oReg, Finset.mem_filter, Finset.mem_univ, _root_.true_and] at hy
  omega

theorem OutFree.succ {w s n : ℕ} (hn : n % 2 ≠ s) : OutFree d L fi ft w s n ⊢ OutFree d L fi ft w s (n + 1) := by
  unfold OutFree
  iintro ⟨Hb, Hs, ⟨%fo, %hfo, Ho⟩⟩
  isplitl [Hb]; · iexact Hb
  isplitl [Hs]; · iexact Hs
  iexists fo; isplitr
  · ipureintro; exact hfo.succ hn
  · iexact Ho

end Cert.Proof.Gather

end
-- ==== Proof.Words.lean ====
/-
  The words of the gather kernel's loop: before trip `t` the five carried words are functions of `t` alone
  (`w6 … w10`). Here every offset, condition and check that the body computes from them is given in closed
  form, for every tile and every trip, by evaluation.
-/
module

public import proofs.«01_k».proof.Proof.Gen.KernelIdeal
public import Idealize.ShloMosaic.Lib.Decide

@[expose] public section

set_option Elab.async false

namespace Cert.Proof.Words

open Cert.KernelIdeal Cert.KernelIdeal.Gen
open Idealize.ShloMosaic Idealize.SL.Sem

/-- The number of blocks already asked for: trip `t` starts with blocks `0 … t` asked for. -/
def w6 (t : ℕ) : BitVec 32 := BitVec.ofNat 32 (min (t + 1) 64)
/-- The number of index blocks consumed, and of output blocks sent. -/
def w7 (t : ℕ) : BitVec 32 := BitVec.ofNat 32 t
/-- The number of output blocks waited for. -/
def w9 (t : ℕ) : BitVec 32 := BitVec.ofNat 32 (t - 1)
/-- The trip's block, wrapped to zero past the last. -/
def w10 (t : ℕ) : BitVec 32 := BitVec.ofNat 32 (t % 64)

/-- The tile's number: its subcore plus sixteen for each core before its own. -/
def tileNo (i : grid2.Coords) : ℕ := (i 1).val + 16 * (i 0).val

theorem tileNo_lt : ∀ i : grid2.Coords, tileNo i < 32 := by decide +kernel

theorem trips_eq : k2_t1_loop.trips = 64 := by decide +kernel

theorem cond1_eq : ∀ (i : grid2.Coords) (t : Fin k2_t1_loop.trips), t.val < 63 → k2_cond1 i t (w10 t.val) = 1#1 := by decide +kernel
theorem cond1_last : ∀ (i : grid2.Coords) (t : Fin k2_t1_loop.trips), ¬ t.val < 63 → ¬ k2_cond1 i t (w10 t.val) = 1#1 := by decide +kernel
theorem cond2_eq : ∀ (i : grid2.Coords) (t : Fin k2_t1_loop.trips), k2_cond2 i t (w10 t.val) = 1#1 := by decide +kernel
theorem cond5_eq : ∀ (i : grid2.Coords) (t : Fin k2_t1_loop.trips), k2_cond5 i t (w10 t.val) = 1#1 := by decide +kernel
theorem cond7_eq : ∀ (i : grid2.Coords) (t : Fin k2_t1_loop.trips), 0 < t.val → k2_cond7 i t (w10 t.val) = 1#1 := by decide +kernel
theorem cond7_first : ∀ (i : grid2.Coords) (t : Fin k2_t1_loop.trips), ¬ 0 < t.val → ¬ k2_cond7 i t (w10 t.val) = 1#1 := by decide +kernel

theorem off2_eq : ∀ i : grid2.Coords, k2_off2 i = ![400 * (64 * tileNo i + 0)] := by decide +kernel

theorem off4_eq : ∀ t : Fin 64, k2_off4 (w6 t.val) = ![400 * (min (t.val + 1) 64 % 2)] := by decide +kernel
theorem off5_eq : ∀ (i : grid2.Coords) (t : Fin 64), t.val < 63 → k2_off5 i (w10 t.val) = ![400 * (64 * tileNo i + (t.val + 1))] := by decide +kernel
theorem off6_eq : ∀ t : Fin 64, k2_off6 (w6 t.val) = ![min (t.val + 1) 64 % 2] := by decide +kernel
theorem off7_eq : ∀ t : Fin 64, k2_off7 (w7 t.val) = ![400 * (t.val % 2)] := by decide +kernel
theorem off8_eq : ∀ (i : grid2.Coords) (t : Fin 64), k2_off8 i (w10 t.val) = ![400 * (64 * tileNo i + t.val)] := by decide +kernel
theorem off9_eq : ∀ t : Fin 64, k2_off9 (w7 t.val) = ![t.val % 2] := by decide +kernel
theorem off10_eq : ∀ t : Fin 64, k2_off10 (w7 t.val) = ![t.val % 2, 0, 0] := by decide +kernel
theorem off11_eq : ∀ t : Fin 64, k2_off11 (w7 t.val) = ![400 * (t.val % 2)] := by decide +kernel
theorem off12_eq : ∀ t : Fin 64, k2_off12 (w7 t.val) = ![t.val % 2, 0, 0] := by decide +kernel
theorem off13_eq : ∀ (i : grid2.Coords) (t : Fin 64), k2_off13 i (w10 t.val) = ![400 * (64 * tileNo i + t.val), 0] := by decide +kernel
theorem off14_eq : ∀ t : Fin 64, k2_off14 (w7 t.val) = ![t.val % 2] := by decide +kernel
theorem off15_eq : ∀ t : Fin 64, k2_off15 (w9 t.val) = ![(t.val - 1) % 2, 0, 0] := by decide +kernel
theorem off16_eq : ∀ (i : grid2.Coords) (t : Fin 64), 0 < t.val → k2_off16 i (w10 t.val) = ![400 * (64 * tileNo i + (t.val - 1)), 0] := by decide +kernel
theorem off17_eq : ∀ t : Fin 64, k2_off17 (w9 t.val) = ![(t.val - 1) % 2] := by decide +kernel

theorem off18_eq : k2_off18 (w9 64) = ![63 % 2, 0, 0] := by decide +kernel
theorem off19_eq : ∀ i : grid2.Coords, k2_off19 i (w10 64) = ![400 * (64 * tileNo i + 63), 0] := by decide +kernel
theorem off20_eq : k2_off20 (w9 64) = ![63 % 2] := by decide +kernel
theorem off21_eq : k2_off21 (w9 64) = ![63 % 2, 0, 0] := by decide +kernel

theorem chk1 : ∀ (i : grid2.Coords) (t : Fin k2_t1_loop.trips), k2_chk1 i t (w6 t.val) (w7 t.val) (w7 t.val) (w9 t.val) (w10 t.val) := by decide +kernel
theorem chk2 : ∀ t : Fin 64, k2_chk2 (w7 t.val) := by decide +kernel
theorem chk3 : ∀ t : Fin 64, k2_chk3 (w7 t.val) := by decide +kernel
theorem chk4 : k2_chk4 (w9 64) := by decide +kernel
theorem chk5 : ∀ i : grid2.Coords, k2_chk5 i (w10 64) := by decide +kernel

end Cert.Proof.Words
-- ==== Proof.Trip.lean ====
module

public import proofs.«01_k».proof.Proof.Steps
public import proofs.«01_k».proof.Proof.Words

@[expose] public section

noncomputable section

namespace Cert.Proof.Gather

open Cert.KernelIdeal Cert.KernelIdeal.Gen Cert.Proof.Words

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (L : grid2.Coords)

variable (fi : Buf (Elt F) (iLoc d)) (ft : Buf (Elt F) (tLoc d))

/-- The share of the index list each slot reads by: a half of the tile's. -/
def slotShare (q : PosShare TreeShare) (s : ℕ) : PosShare TreeShare := if s = 0 then q.left else q.right

/-- Trip `t`'s index slot: its block on the way, or idle past the last. -/
def InCur (q : PosShare TreeShare) (t : ℕ) : sProp 𝕄 :=
  if t < 64 then InFlight d L fi (slotShare q (t % 2)) (t % 2) (64 * tileNo L + t) else InFree d L fi (slotShare q (t % 2)) (t % 2)

/-- The output slot of the trip before: its block on the way out, or idle before the first. -/
def OutPrev (t : ℕ) : sProp 𝕄 :=
  if 0 < t then OutFlight d L fi ft (tileNo L) ((t + 1) % 2) t else OutFree d L fi ft (tileNo L) ((t + 1) % 2) t

/-- What holds before trip `t` (and, at 64, after the loop). -/
def Inv (q qt : PosShare TreeShare) (O : CellTallies nD τ sig (HIx 1)) (W : Waits sig (HIx 1)) (t : ℕ)
    (acc : BitVec 32 × BitVec 32 × BitVec 32 × BitVec 32 × BitVec 32) : sProp 𝕄 :=
  iprop(⌜acc = (w6 t, w7 t, w7 t, w9 t, w10 t)⌝ ∗ Transfers.MayWaits (thr d L) (default : HIx 1) O
    ∗ (tLoc d ↦{qt} ft) ∗ semVal (thr d L, .dma cc2_scoped4.sem) 0
    ∗ InCur d L fi q t ∗ InFree d L fi (slotShare q ((t + 1) % 2)) ((t + 1) % 2)
    ∗ OutFree d L fi ft (tileNo L) (t % 2) t ∗ OutPrev d L fi ft t ∗ Owe d L O W)

/-- The word the body computes a tile's first block by. -/
def baseWord (i : grid2.Coords) : BitVec 32 :=
  Scalar.muli (Scalar.addi (Scalar.addi 0#32 (Scalar.muli (BitVec.ofNat 32 (i 1).val) 1#32)) (Scalar.muli (BitVec.ofNat 32 (i 0).val) 16#32)) 64#32

abbrev tripProg (c18 : BitVec 32) : Fin k2_t1_loop.trips → BitVec 32 × BitVec 32 × BitVec 32 × BitVec 32 × BitVec 32 →
    Prog (TpuEff nD τ sig (Elt F) Λ₀ (.scVector ((L 0).castLE hcore2) ((L 1).castLE hsub2))) (BitVec 32 × BitVec 32 × BitVec 32 × BitVec 32 × BitVec 32) :=
  k2_t1_body L tM (Memref.isWhole_whole _) iM (Memref.isWhole_whole _) oM (Memref.isWhole_whole _) aM (Memref.isWhole_whole _) cc2_scoped1
    bM (Memref.isWhole_whole _) cc2_scoped3 cc2_scoped4 (baseWord L) (Scalar.addi 0#32 1#32) c18

/-! ## The words a trip hands on -/

abbrev blockWord (i : grid2.Coords) (t : ℕ) : BitVec 32 := Scalar.addi (w10 t) (baseWord i)
abbrev prevWord (i : grid2.Coords) (t : ℕ) : BitVec 32 :=
  Scalar.addi (Scalar.select (Scalar.cmpi .eq (Scalar.select 1#1 (Scalar.subi (w10 t) 1#32) (w10 t)) 4294967295#32) 63#32
    (Scalar.select 1#1 (Scalar.subi (w10 t) 1#32) (w10 t))) (baseWord i)
abbrev nextWord (i : grid2.Coords) (t : ℕ) : BitVec 32 :=
  Scalar.addi (Scalar.select (Scalar.cmpi .eq (Scalar.select 1#1 (Scalar.addi (w10 t) 1#32) (w10 t)) 64#32) 0#32
    (Scalar.select 1#1 (Scalar.addi (w10 t) 1#32) (w10 t))) (baseWord i)

theorem next6 : ∀ (i : grid2.Coords) (t : Fin k2_t1_loop.trips),
    Scalar.select (Scalar.andi (Scalar.andi (Scalar.cmpi .ne (blockWord i t.val) (nextWord i t.val))
      (Scalar.xori (Scalar.cmpi .sge (Scf.iv 0#32 1#32 t) 63#32) 1#1)) 1#1) (Scalar.addi (w6 t.val) 1#32) (w6 t.val) = w6 (t.val + 1) := by
  decide +kernel
theorem next7 : ∀ (i : grid2.Coords) (t : Fin k2_t1_loop.trips),
    Scalar.select (Scalar.ori (Scalar.cmpi .ne (blockWord i t.val) (nextWord i t.val)) (Scalar.cmpi .eq (Scf.iv 0#32 1#32 t) 63#32))
      (Scalar.addi (w7 t.val) 1#32) (w7 t.val) = w7 (t.val + 1) := by
  decide +kernel
theorem next8 : ∀ (i : grid2.Coords) (t : Fin k2_t1_loop.trips),
    Scalar.select (Scalar.andi (Scalar.ori (Scalar.cmpi .ne (blockWord i t.val) (nextWord i t.val)) (Scalar.cmpi .eq (Scf.iv 0#32 1#32 t) 63#32)) 1#1)
      (Scalar.addi (w7 t.val) 1#32) (w7 t.val) = w7 (t.val + 1) := by
  decide +kernel
theorem next9 : ∀ (i : grid2.Coords) (t : Fin k2_t1_loop.trips),
    Scalar.select (Scalar.andi (Scalar.andi (Scalar.cmpi .ne (blockWord i t.val) (prevWord i t.val))
      (Scalar.xori (Scalar.cmpi .eq (Scf.iv 0#32 1#32 t) 0#32) 1#1)) 1#1) (Scalar.addi (w9 t.val) 1#32) (w9 t.val) = w9 (t.val + 1) := by
  decide +kernel
theorem next10 : ∀ t : Fin 64,
    Scalar.select (Scalar.cmpi .eq (Scalar.select 1#1 (Scalar.addi (w10 t.val) 1#32) (w10 t.val)) 64#32) 0#32
      (Scalar.select 1#1 (Scalar.addi (w10 t.val) 1#32) (w10 t.val)) = w10 (t.val + 1) := by
  decide +kernel

/-! ## One trip -/

/-- A check that holds passes. -/
theorem wp_check {P : Prop} {dP : Decidable P} (h : P) {Q : PLift P → sProp 𝕄} :
    Q ⟨h⟩ ⊢ wp frame (wpE (defs₀ (F := F)) 𝒱₀ (thr d L) none) Set.univ (Prog.lift (TpuEff.assume P dP)) Q := by
  refine BIBase.Entails.trans ?_ (wp_assume 𝒱₀ (thr d L) none Set.univ h)
  rw [wp_ret]
  exact fupd_intro

/-- A program at its end. -/
theorem wp_end {α : Type} (a : α) {Q : α → sProp 𝕄} :
    Q a ⊢ wp frame (wpE (defs₀ (F := F)) 𝒱₀ (thr d L) none) Set.univ (pure a) Q := by
  show Q a ⊢ wp frame (wpE (defs₀ (F := F)) 𝒱₀ (thr d L) none) Set.univ (Prog.ret a) Q
  rw [wp_ret]
  exact fupd_intro

/-- The next block asked for, unless the trip is the last. -/
theorem if_fetch {q : PosShare TreeShare} {t : ℕ} {c : Prop} [Decidable c] (hc : t + 1 < 64 ↔ c) {offA offI offS : Fin 1 → ℕ}
    (hA : t + 1 < 64 → offA = ![400 * ((t + 1) % 2)]) (hI : t + 1 < 64 → offI = ![400 * (64 * tileNo L + (t + 1))]) (hS : t + 1 < 64 → offS = ![(t + 1) % 2])
    (inbA : c → _) (inbI : c → _) (inbS : c → _) (hstA : ∀ h : c, _) (hstI : ∀ h : c, _) (hw1 : ∀ h : c, _) (hw2 : ∀ h : c, _) (hty : ∀ h : c, _)
    {α : Type} {k : Prog (TpuEff nD τ sig (Elt F) Λ₀ (thr d L).2) α} {Q : α → sProp 𝕄} :
    InFree d L fi (slotShare q ((t + 1) % 2)) ((t + 1) % 2) ⊢ iprop((InCur d L fi q (t + 1) -∗ wp frame (wpE (defs₀ (F := F)) 𝒱₀ (thr d L) none) Set.univ k Q)
      -∗ wp frame (wpE (defs₀ (F := F)) 𝒱₀ (thr d L) none) Set.univ
        (if h : c then Prog.lift (.enqueueDma (iM.slice (Rect.unit (s := S819200) offI S400.size (inbI h)) (hstI h))
          (.here (aM.slice (Rect.unit (s := S800) offA S400.size (inbA h)) (hstA h)))
          (.dma ((cc2_scoped1.slice (Rect.unit (s := S2) offS S1.size (inbS h))).squeeze S_ squeezes_S1_S_).sem) (hw1 h) (hw2 h) (hty h)) >>= fun _ => k
        else k) Q) := by
  unfold InCur
  by_cases h : t + 1 < 64
  · rw [dif_pos (hc.mp h), if_pos h, wp_bind]
    exact step_fetch (Q := fun _ => wp frame (wpE (defs₀ (F := F)) 𝒱₀ (thr d L) none) Set.univ k Q) d L fi (Nat.mod_lt _ (by decide)) (hA h) (hI h) (hS h) _ _ _ _ _ _ _ _
  · rw [dif_neg (mt hc.mpr h), if_neg h]
    iintro H Hk
    iapply Hk $$ H

/-- The block sent the trip before waited for, unless the trip is the first. -/
theorem if_waitOut {t : ℕ} {c : Prop} [Decidable c] (hc : 0 < t ↔ c) {offB : Fin 3 → ℕ} {offO : Fin 2 → ℕ} {offS : Fin 1 → ℕ}
    (hS : offS = ![(t - 1) % 2])
    (inbB : c → _) (inbO : c → _) (inbS : c → _) (hstB : ∀ h : c, _) (hstO : ∀ h : c, _) (hw1 : ∀ h : c, _) (hw2 : ∀ h : c, _)
    (O : CellTallies nD τ sig (HIx 1)) (W : Waits sig (HIx 1))
    {α : Type} {k : Prog (TpuEff nD τ sig (Elt F) Λ₀ (thr d L).2) α} {Q : α → sProp 𝕄} :
    iprop(OutPrev d L fi ft t ∗ Transfers.MayWaits (thr d L) (default : HIx 1) O ∗ Owe d L O W) ⊢ iprop(
      (iprop(OutFree d L fi ft (tileNo L) ((t + 1) % 2) t ∗ Owe d L O W) -∗ wp frame (wpE (defs₀ (F := F)) 𝒱₀ (thr d L) none) Set.univ k Q)
      -∗ wp frame (wpE (defs₀ (F := F)) 𝒱₀ (thr d L) none) Set.univ
        (if h : c then Prog.lift (.waitDma2 ((cc2_scoped3.slice (Rect.unit (s := S2) offS S1.size (inbS h))).squeeze S_ squeezes_S1_S_).sem
          ((bM.slice (Rect.unit (s := S2x400x128) offB S1x400x128.size (inbB h)) (hstB h)).squeeze S400x128 squeezes_S1x400x128_S400x128)
          (oM.slice (Rect.unit (s := S819200x128) offO S400x128.size (inbO h)) (hstO h)) (hw1 h) (hw2 h)) >>= fun _ => k
        else k) Q) := by
  unfold OutPrev
  by_cases h : 0 < t
  · rw [dif_pos (hc.mp h), if_pos h, wp_bind]
    exact step_waitOut (Q := fun _ => wp frame (wpE (defs₀ (F := F)) 𝒱₀ (thr d L) none) Set.univ k Q) d L fi ft (Nat.mod_lt _ (by decide)) (hS.trans (by rw [show (t - 1) % 2 = (t + 1) % 2 by omega])) _ _ _ _ _ _ _ O W
  · rw [dif_neg (mt hc.mpr h), if_neg h]
    iintro ⟨H, -, HO⟩ Hk
    iapply Hk
    isplitl [H] <;> iassumption

theorem trip (q qt : PosShare TreeShare) (hrows : InRows fi) (O : CellTallies nD τ sig (HIx 1)) (W : Waits sig (HIx 1)) (c18 : BitVec 32)
    (t : Fin k2_t1_loop.trips) (acc) :
    Inv d L fi ft q qt O W t.val acc ⊢ wp frame (wpE (defs₀ (F := F)) 𝒱₀ (thr d L) none) Set.univ (tripProg L c18 t acc)
      (Inv d L fi ft q qt O W (t.val + 1)) := by
  have ht : t.val < 64 := trips_eq ▸ t.isLt
  have hsl : t.val % 2 < 2 := Nat.mod_lt _ (by decide)
  have hL := tileNo_lt L
  have hc1 : t.val + 1 < 64 ↔ k2_cond1 L t (w10 t.val) = 1#1 :=
    ⟨fun h => cond1_eq L t (by omega), fun h => by by_contra h'; exact cond1_last L t (by omega) h⟩
  have hc7 : 0 < t.val ↔ k2_cond7 L t (w10 t.val) = 1#1 :=
    ⟨fun h => cond7_eq L t h, fun h => by by_contra h'; exact cond7_first L t h' h⟩
  have hcur : InCur d L fi q t.val = InFlight d L fi (slotShare q (t.val % 2)) (t.val % 2) (64 * tileNo L + t.val) := if_pos ht
  unfold Inv
  iintro ⟨%hacc, #Hmw, Ht, Hgs, Hin, Hin', Hout, Hout', HO⟩
  subst hacc
  unfold tripProg k2_t1_body
  simp only [k2_part1_eq_skeleton, k2_part2_eq_skeleton]
  unfold k2_part1_skel k2_part2_skel
  simp only [wp_bind, wp_pure, ite_self]
  iapply (wp_check d L (chk3 ⟨t.val, ht⟩))
  iapply (wp_check d L (chk2 ⟨t.val, ht⟩))
  iapply (wp_check d L (chk1 L t))
  iapply (if_fetch d L fi (q := q) (t := t.val) hc1 (fun h => (off4_eq ⟨t.val, ht⟩).trans (by
      show ![400 * (min (t.val + 1) 64 % 2)] = _; rw [Nat.min_eq_left (by omega)]))
    (fun h => off5_eq L ⟨t.val, ht⟩ (by show t.val < 63; omega))
    (fun h => (off6_eq ⟨t.val, ht⟩).trans (by show ![min (t.val + 1) 64 % 2] = _; rw [Nat.min_eq_left (by omega)])) _ _ _ _ _ _ _ _) $$ [Hin']
  · iexact Hin'
  iintro Hnext
  iapply (wp_end d L)
  rw [dif_pos (cond2_eq L t)]
  simp only [wp_bind]
  ihave Hin := (Entails.of_eq hcur) $$ Hin
  iapply (step_waitIn d L fi hsl (off9_eq ⟨t.val, ht⟩) _ _ _ _ _ _ _ O W) $$ [Hin HO]
  · isplitl [Hin]
    · iexact Hin
    isplitr
    · iexact Hmw
    iexact HO
  iintro ⟨HA, Hsi, Hi, HO⟩
  have hg := @step_gather F _ d L fi ft
  simp only [wp_bind] at hg
  unfold OutFree
  icases Hout with ⟨Hb, Hso, Hdone⟩
  iapply (hg (q := qt) hrows hsl (by omega : 64 * tileNo L + t.val < 2048) (off11_eq ⟨t.val, ht⟩) (off10_eq ⟨t.val, ht⟩)
    _ _ _ _ _ _ _ _ _ _ _ _ (Or.inl trivial) _ _ _ O W) $$ [HA Hb Ht Hgs HO]
  · trivial
  · isplitl [HA]; · iexact HA
    isplitl [Hb]; · iexact Hb
    isplitl [Ht]; · iexact Ht
    isplitl [Hgs]; · iexact Hgs
    isplitr; · iexact Hmw
    iexact HO
  iintro ⟨HA, HB, Ht, Hgs, HO⟩
  rw [dif_pos (cond5_eq L t)]
  simp only [wp_bind]
  iapply (step_send d L fi ft ht hL rfl (off12_eq ⟨t.val, ht⟩) (off13_eq L ⟨t.val, ht⟩) (off14_eq ⟨t.val, ht⟩) _ _ _ _ _ _ _ _) $$ [HB Hso Hdone]
  · isplitl [HB]; · iexact HB
    isplitl [Hso]; · iexact Hso
    iexact Hdone
  iintro Hsent
  iapply (wp_end d L)
  iapply (if_waitOut d L fi ft hc7 (off17_eq ⟨t.val, ht⟩) _ _ _ _ _ _ _ O W) $$ [Hout' HO]
  · isplitl [Hout']; · iexact Hout'
    isplitr; · iexact Hmw
    iexact HO
  iintro ⟨Hout, HO⟩
  iapply (wp_end d L)
  isplitr
  · ipureintro
    exact Prod.ext (next6 L t) (Prod.ext (next7 L t) (Prod.ext (next8 L t) (Prod.ext (next9 L t) (next10 ⟨t.val, ht⟩))))
  isplitr; · iexact Hmw
  isplitl [Ht]; · iexact Ht
  isplitl [Hgs]; · iexact Hgs
  isplitl [Hnext]; · iexact Hnext
  rw [show (t.val + 1 + 1) % 2 = t.val % 2 by omega]
  isplitl [HA Hsi Hi]
  · unfold InFree
    isplitl [HA]; · iexact HA
    isplitl [Hsi]; · iexact Hsi
    iexact Hi
  isplitl [Hout]
  · ihave Hout := (OutFree.succ d L fi ft (w := tileNo L) (by omega : t.val % 2 ≠ (t.val + 1) % 2)) $$ Hout
    unfold OutFree
    iexact Hout
  isplitl [Hsent]
  · unfold OutPrev
    rw [if_pos (Nat.succ_pos _), show (t.val + 1 + 1) % 2 = t.val % 2 by omega]
    iexact Hsent
  iexact HO

end Cert.Proof.Gather

end
-- ==== Proof.Tile.lean ====
/-
  One tile's task, whole: the first index block asked for, sixty-four trips of the loop, the last output block waited
  for. It takes its share of the index list and of the table and its rows of the output, and leaves those rows gathered.
-/
module

public import proofs.«01_k».proof.Proof.Trip

@[expose] public section

noncomputable section

namespace Cert.Proof.Gather

open Cert.KernelIdeal Cert.KernelIdeal.Gen
open Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (L : grid2.Coords)

/-- Tile `w`'s rows of the output. -/
def tileSet (w : ℕ) : Finset S819200x128.Idx := Finset.univ.filter fun y => (y 0).val / 25600 = w

theorem tileSet_eq (w : ℕ) : tileSet w = oReg w 0 ∪ oReg w 1 := by
  ext y
  simp only [tileSet, oReg, Finset.mem_union, Finset.mem_filter, Finset.mem_univ, _root_.true_and]
  omega

theorem oReg_disjoint (w : ℕ) : Disjoint (oReg w 0) (oReg w 1) := by
  rw [Finset.disjoint_left]
  intro y
  simp only [oReg, Finset.mem_filter, Finset.mem_univ, _root_.true_and]
  omega

theorem inSet_cover : (Finset.univ : Finset S800.Idx) = inSet 0 ∪ inSet 1 := by
  ext y
  simp only [inSet, Finset.mem_union, Finset.mem_filter, Finset.mem_univ, _root_.true_and, true_iff]
  have : (y 0).val < 800 := (y 0).isLt
  omega

theorem inSet_disjoint : Disjoint (inSet 0) (inSet 1) := by
  rw [Finset.disjoint_left]
  intro y
  simp only [inSet, Finset.mem_filter, Finset.mem_univ, _root_.true_and]
  omega

theorem obSet_cover : (Finset.univ : Finset S2x400x128.Idx) = obSet 0 ∪ obSet 1 := by
  ext y
  simp only [obSet, Finset.mem_union, Finset.mem_filter, Finset.mem_univ, _root_.true_and, true_iff]
  have : (y 0).val < 2 := (y 0).isLt
  omega

theorem obSet_disjoint : Disjoint (obSet 0) (obSet 1) := by
  rw [Finset.disjoint_left]
  intro y
  simp only [obSet, Finset.mem_filter, Finset.mem_univ, _root_.true_and]
  omega

/-! ## The tile's own buffers and semaphores -/

abbrev cell (n : DmaSem sig) : GSem nD τ sig := (thr d L, .dma n)

theorem cell_ne {a b : DmaSem sig} (h : a ≠ b) : cell d L a ≠ cell d L b := fun e => h (by injection e with _ e; injection e)

theorem cell_mem (n : DmaSem sig) (h : (SemLoc.dma n : SemLoc sig).isScoped .scVector = true) : cell d L n ∈ ownCells (thr d L) :=
  mem_ownCells.mpr ⟨rfl, h⟩

/-- The tile's semaphores: the two index slots', the two output slots', the gather's, and the rest. -/
theorem ownSems0_tile :
    ∃ R : sProp 𝕄, (ownSems0 (thr d L) : sProp 𝕄)
      = iprop(semVal (cell d L (inSem 0)) 0 ∗ semVal (cell d L (inSem 1)) 0 ∗ semVal (cell d L (outSem 0)) 0 ∗ semVal (cell d L (outSem 1)) 0
          ∗ semVal (cell d L cc2_scoped4.sem) 0 ∗ R) := by
  refine ⟨bigSep ((((((ownCells (thr d L)).erase (cell d L (inSem 0))).erase (cell d L (inSem 1))).erase (cell d L (outSem 0))).erase
    (cell d L (outSem 1))).erase (cell d L cc2_scoped4.sem)) fun g => semVal g 0, ?_⟩
  unfold SparseCore.Cfg.ownSems0
  rw [SparseCore.bigSep_erase' (cell_mem d L (inSem 0) (by decide)),
    SparseCore.bigSep_erase' (Finset.mem_erase.mpr ⟨cell_ne d L (by decide), cell_mem d L (inSem 1) (by decide)⟩),
    SparseCore.bigSep_erase' (Finset.mem_erase.mpr ⟨cell_ne d L (by decide), Finset.mem_erase.mpr ⟨cell_ne d L (by decide), cell_mem d L (outSem 0) (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L (outSem 1) (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L cc2_scoped4.sem (by decide)⟩⟩⟩⟩)]

/-- The tile's buffers: the index slots, the output slots, and the rest. -/
theorem ownBufs_tile :
    ∃ R : sProp 𝕄, (ownBufs (thr d L) : sProp 𝕄)
      = iprop((∃ f : Buf (Elt F) (aLoc d L), aLoc d L ↦{fullShare} f) ∗ (∃ f : Buf (Elt F) (bLoc d L), bLoc d L ↦{fullShare} f) ∗ R) := by
  refine ⟨bigSep (((ownRefs (τ := τ) (.scVector (cV L) (jV L))).erase ((Proc.scVector (cV L) (jV L)).devRef cc2_scoped0)).erase
    ((Proc.scVector (cV L) (jV L)).devRef cc2_scoped2)) fun b => iprop(∃ f, ((d, b) : Loc nD τ sig) ↦{fullShare} f), ?_⟩
  unfold SparseCore.Cfg.ownBufs
  refine (SparseCore.bigSep_erase' (SparseCore.Cfg.mem_ownRefs_of_owner (p := Proc.scVector (cV L) (jV L))
    (b := (Proc.scVector (cV L) (jV L)).devRef cc2_scoped0) rfl)).trans ?_
  rw [SparseCore.bigSep_erase' (Finset.mem_erase.mpr ⟨fun e => absurd (Proc.devRef_injective _ e) (show (cc2_scoped2 : Ref sig .scVector) ≠ cc2_scoped0 by decide),
    SparseCore.Cfg.mem_ownRefs_of_owner (p := Proc.scVector (cV L) (jV L)) (b := (Proc.scVector (cV L) (jV L)).devRef cc2_scoped2) rfl⟩)]

variable (fi : Buf (Elt F) (iLoc d)) (ft : Buf (Elt F) (tLoc d))

/-- The value the gather leaves. -/
abbrev Gv : Buf (Elt F) (oLoc d) := G fi ft

/-- What a tile is handed, and what it hands back. -/
abbrev TileIn (q : PosShare TreeShare) (w : ℕ) : sProp 𝕄 :=
  iprop((iLoc d ↦{q} fi) ∗ (tLoc d ↦{q} ft) ∗ ∃ f : Buf (Elt F) (oLoc d), oLoc d ↦[tileSet w]{fullShare} f)
abbrev TileOut (q : PosShare TreeShare) (w : ℕ) : sProp 𝕄 :=
  iprop((iLoc d ↦{q} fi) ∗ (tLoc d ↦{q} ft) ∗ oLoc d ↦[tileSet w]{fullShare} Gv d fi ft)

theorem Done.zero {fi : S819200.Idx → BitVec 32} {ft : S100352x128.Idx → F .f32} {w s : ℕ} (fo) : Done fi ft w s 0 fo := by
  intro y hy h
  simp only [oReg, Finset.mem_filter, Finset.mem_univ, _root_.true_and] at hy
  omega

theorem Done.all {fi : S819200.Idx → BitVec 32} {ft : S100352x128.Idx → F .f32} {w s : ℕ} {fo} (h : Done fi ft w s 64 fo) :
    ∀ y ∈ oReg w s, fo y = G fi ft y := by
  intro y hy
  refine h y hy ?_
  simp only [oReg, Finset.mem_filter, Finset.mem_univ, _root_.true_and] at hy
  omega

theorem wp_loop (O : CellTallies nD τ sig (HIx 1)) (W : Waits sig (HIx 1)) (q qt : PosShare TreeShare) (hrows : InRows fi) (init) {Q : _ → sProp 𝕄} (c18 : BitVec 32) :
    Inv d L fi ft q qt O W 0 init ⊢ iprop((∀ acc, Inv d L fi ft q qt O W 64 acc -∗ Q acc)
      -∗ wp frame (wpE (defs₀ (F := F)) 𝒱₀ (thr d L) none) Set.univ (Scf.Loop.for k2_t1_loop k2_t1_ok init (tripProg L c18)) Q) := by
  iintro H HK
  iapply (Scf.wp_for frame (wpE (defs₀ (F := F)) 𝒱₀ (thr d L) none) Set.univ _ _ _ k2_t1_ok init (tripProg L c18)
    (Inv d L fi ft q qt O W) (fun k acc => trip d L fi ft q qt hrows O W c18 k acc))
  isplitl [H]; · iexact H
  iexact HK

theorem tile_body (hF : (K (F := F)).Facts) (q : PosShare TreeShare) (hrows : InRows fi) (O : CellTallies nD τ sig (HIx 1)) (W : Waits sig (HIx 1))
    (hO : ∀ g, O g none = 0) :
    iprop(levAts (K (F := F)).L (K (F := F)).lev ∗ emp ∗ TileIn d fi ft q (tileNo L)
        ∗ scopedBufs (thr d L) ∗ scopedSems0 (thr d L) ∗ owes (thr d L) O W)
      ⊢ wp frame (wpE (defs₀ (F := F)) 𝒱₀ (thr d L) none) Set.univ
          (cc2_gather_kernel L tM (Memref.isWhole_whole _) iM (Memref.isWhole_whole _) oM (Memref.isWhole_whole _)
            aM (Memref.isWhole_whole _) cc2_scoped1 bM (Memref.isWhole_whole _) cc2_scoped3 cc2_scoped4)
          fun _ => iprop(TileOut d fi ft q (tileNo L) ∗ scopedBufs (thr d L) ∗ scopedSems0 (thr d L)
            ∗ ∃ W', ⌜∀ p ∈ W', p ∈ W ∨ p.2 = none⌝ ∗ owes (thr d L) O W') := by
  have hL := tileNo_lt L
  obtain ⟨Rs, hRs⟩ := ownSems0_tile (F := F) d L
  obtain ⟨Rb, hRb⟩ := ownBufs_tile (F := F) d L
  simp only [cc2_gather_kernel_eq_skeleton]; unfold cc2_gather_kernel_skel
  simp only [k2_part3_eq_skeleton, k2_part4_eq_skeleton]; unfold k2_part3_skel k2_part4_skel
  rw [(K (F := F)).scopedBufs_V hF d (cV L) (jV L), SparseCore.Cfg.scopedSems0_V (Val := Elt F) d (cV L) (jV L), hRs, hRb]
  iintro ⟨#Hlv, -, ⟨Hi, Ht, %fo, Ho⟩, ⟨⟨%fa, Ha⟩, ⟨%fb, Hb⟩, Hbufs⟩, ⟨Hi0, Hi1, Ho0, Ho1, Hgs, Hsems⟩, HO⟩
  ihave Hmw := (show levAts (K (F := F)).L (K (F := F)).lev ⊢ Transfers.MayWaits (thr d L) (default : HIx 1) O from
    (K (F := F)).mayWaits_none (thr := thr d L) hO) $$ Hlv
  ihave Hi := (pointsTo_share (PosShare.mem_left_op_right q)).1 $$ Hi
  icases Hi with ⟨HiL, HiR⟩
  ihave Ha := (Entails.of_eq (show (aLoc d L ↦{fullShare} fa : sProp 𝕄) = aLoc d L ↦[inSet 0 ∪ inSet 1]{fullShare} fa by rw [← inSet_cover])) $$ Ha
  ihave Ha := (pointsTo_union inSet_disjoint).1 $$ Ha
  icases Ha with ⟨Ha0, Ha1⟩
  ihave Hb := (Entails.of_eq (show (bLoc d L ↦{fullShare} fb : sProp 𝕄) = bLoc d L ↦[obSet 0 ∪ obSet 1]{fullShare} fb by rw [← obSet_cover])) $$ Hb
  ihave Hb := (pointsTo_union obSet_disjoint).1 $$ Hb
  icases Hb with ⟨Hb0, Hb1⟩
  rw [tileSet_eq]
  ihave Ho := (pointsTo_union (oReg_disjoint _)).1 $$ Ho
  icases Ho with ⟨Hor0, Hor1⟩
  simp only [wp_bind, wp_pure]
  iapply (step_fetch d L fi (s := 0) (b := 64 * tileNo L + 0) (q := q.left) (by decide) rfl (off2_eq L) rfl _ _ _ _ _ _ _ _) $$ [Ha0 Hi0 HiL]
  · unfold InFree
    isplitl [Ha0]; · iexists fa; iexact Ha0
    isplitl [Hi0]; · iexact Hi0
    iexact HiL
  iintro Hin
  imodintro
  iapply (wp_loop d L fi ft O W q q hrows (Scalar.addi 0#32 1#32, 0#32, 0#32, 0#32, 0#32) 0#32) $$ [Hin Ht Hgs HiR Ha1 Hi1 Hb0 Ho0 Hor0 Hb1 Ho1 Hor1 HO]
  · unfold Inv
    isplitr; · ipureintro; decide
    isplitr; · iexact Hmw
    isplitl [Ht]; · iexact Ht
    isplitl [Hgs]; · iexact Hgs
    isplitl [Hin]; · iapply (Entails.of_eq (show InFlight d L fi q.left 0 (64 * tileNo L + 0) = InCur d L fi q 0 from (if_pos (by decide : 0 < 64)).symm)) $$ Hin
    isplitl [HiR Ha1 Hi1]
    · unfold InFree
      isplitl [Ha1]; · iexists fa; iexact Ha1
      isplitl [Hi1]; · iexact Hi1
      iexact HiR
    isplitl [Hb0 Ho0 Hor0]
    · unfold OutFree
      isplitl [Hb0]; · iexists fb; iexact Hb0
      isplitl [Ho0]; · iexact Ho0
      iexists fo; isplitr
      · ipureintro; exact Done.zero _
      iexact Hor0
    isplitl [Hb1 Ho1 Hor1]
    · unfold OutPrev OutFree
      rw [if_neg (lt_irrefl 0)]
      isplitl [Hb1]; · iexists fb; iexact Hb1
      isplitl [Ho1]; · iexact Ho1
      iexists fo; isplitr
      · ipureintro; exact Done.zero _
      iexact Hor1
    unfold Owe
    iexists W; isplitr
    · ipureintro; exact fun p hp => Or.inl hp
    iexact HO
  iintro %acc Hinv
  unfold Inv
  icases Hinv with ⟨%hacc, -, Ht, Hgs, Hin, Hin', Hout, Hout', HO⟩
  subst hacc
  iapply (wp_check d L (chk5 L))
  iapply (wp_check d L chk4)
  imodintro
  ihave Hout' := (Entails.of_eq (show OutPrev d L fi ft 64 = OutFlight d L fi ft (tileNo L) 1 64 from if_pos (by decide : 0 < 64))) $$ Hout'
  iapply (step_waitOut d L fi ft (s := 1) (n := 64) (by decide) off20_eq _ _ _ _ _ _ _ O W) $$ [Hout' HO]
  · isplitl [Hout']; · iexact Hout'
    isplitr; · iexact Hmw
    iexact HO
  iintro ⟨Hout', HO⟩
  imodintro
  ihave Hin := (Entails.of_eq (show InCur d L fi q 64 = InFree d L fi (slotShare q (64 % 2)) (64 % 2) from if_neg (lt_irrefl 64))) $$ Hin
  unfold InFree OutFree
  icases Hin with ⟨⟨%fa0, Ha0⟩, Hi0, HiL⟩
  icases Hin' with ⟨⟨%fa1, Ha1⟩, Hi1, HiR⟩
  icases Hout with ⟨⟨%fb0, Hb0⟩, Ho0, ⟨%fo0, %hfo0, Hor0⟩⟩
  icases Hout' with ⟨⟨%fb1, Hb1⟩, Ho1, ⟨%fo1, %hfo1, Hor1⟩⟩
  isplitl [HiL HiR Ht Hor0 Hor1]
  · isplitl [HiL HiR]
    · iapply (pointsTo_share (PosShare.mem_left_op_right q)).2
      isplitl [HiL]; · iexact HiL
      iexact HiR
    isplitl [Ht]; · iexact Ht
    rw [tileSet_eq]
    iapply (pointsTo_union (oReg_disjoint _)).2
    isplitl [Hor0]
    · iapply (Entails.of_eq (pointsTo_congr (Done.all hfo0))) $$ Hor0
    · iapply (Entails.of_eq (pointsTo_congr (Done.all hfo1))) $$ Hor1
  isplitl [Ha0 Ha1 Hb0 Hb1 Hbufs]
  · isplitl [Ha0 Ha1]
    · ihave Ha := (pointsTo_join (ℓ := aLoc d L) (q := fullShare) (f := fa0) (g := fa1) inSet_disjoint) $$ [Ha0 Ha1]
      · isplitl [Ha0]; · iexact Ha0
        iexact Ha1
      iexists _
      iapply (Entails.of_eq (by rw [← inSet_cover])) $$ Ha
    isplitl [Hb0 Hb1]
    · ihave Hb := (pointsTo_join (ℓ := bLoc d L) (q := fullShare) (f := fb0) (g := fb1) obSet_disjoint) $$ [Hb0 Hb1]
      · isplitl [Hb0]; · iexact Hb0
        iexact Hb1
      iexists _
      iapply (Entails.of_eq (by rw [← obSet_cover])) $$ Hb
    iexact Hbufs
  isplitl [Hi0 Hi1 Ho0 Ho1 Hgs Hsems]
  · isplitl [Hi0]; · iexact Hi0
    isplitl [Hi1]; · iexact Hi1
    isplitl [Ho0]; · iexact Ho0
    isplitl [Ho1]; · iexact Ho1
    isplitl [Hgs]; · iexact Hgs
    iexact Hsems
  unfold Owe
  iexact HO

end Cert.Proof.Gather

end
-- ==== Proof.Entry.lean ====
/-
  A pipelined call of the program, whichever of the three: entered with every unscoped array of the TensorCore held at one
  valuation and left with them held at another, the debts of the calls still to come carried through untouched.
-/
module

public import proofs.«01_k».proof.Proof.Setup
public import proofs.«01_k».proof.Proof.Gen.KernelIdeal.Launch
public import Idealize.ShloMosaic.Lib.Pipeline.RegionsLoop
public import Idealize.ShloMosaic.Lib.Pipeline.RegionArrays

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- No pipeline reads a table ahead. -/
abbrev adm : (p : Fin 3) → (pcfgs (F := F) p).Adm := fun p => (cfgs p).toPCfg_adm

/-- A value for every buffer of a device's TensorCore. -/
abbrev Vals (F : FTy → Type) : Type := Valuation τ sig (Elt F)

/-- The proof data of each pipeline on each device. -/
abbrev Dats (F : FTy → Type) [FloatOps F] : Type := (p : Fin 3) → (c : Dev nD) → Dat τ (Elt F) (HIx 1) ℕ UU ℕ (Pipeline.pin (pcfgs (F := F)) adm p) c

/-- The stage call `n` begins at. -/
abbrev stageOf (n : ℕ) : ℕ := (inferInstance : SparseCore.Cfg.Blocks 1 1).fst n

/-- The pairs a thread may have recorded before call `n`. -/
def recd (d : Dev nD) (n : ℕ) : Set (SemLoc sig × HIx 1) := {p | (K (F := F)).lev (T d, p.1) p.2 ≤ 8 * stageOf n}

/-- The core's debts before call `n`. -/
abbrev dues (d : Dev nD) (n : ℕ) : sProp 𝕄 :=
  iprop(∃ W, ⌜(K (F := F)).WBelow (T d) W (8 * stageOf n)⌝ ∗ owes (T d) ((K (F := F)).Otc d n) W)

-- the library's lemmas are stated of the configuration at the tables, which is this one by unfolding
set_option backward.isDefEq.respectTransparency.types false in
/-- A pipelined call at one valuation. -/
def region (p : Fin 3) (n : ℕ) (pdats : Dats F) (hL : Pipeline.LaunchFacts₀ (nD := nD) (τ := τ) cfgs p)
    (V V' : Dev nD → Vals F)
    (hq : ∀ c w, ((cfgs p).spec w).isOut = false → (pdats p c).q w = Pipeline.shareOf (cfgs p).spec w)
    (hΦ : ∀ c t, (pdats p c).Φ t = Pipeline.scopedRest (cfgs p).spec c)
    (howed : ∀ c t, (pdats p c).owed t = (K (F := F)).Otc c n)
    (hrecd : ∀ c t, (pdats p c).recorded t = recd (F := F) c n)
    (hA : ∀ c w, (pdats p c).A w = V c (Proc.devRef .tc (Pipeline.arrRef (cfgs p).spec w)))
    (hF : ∀ c w, (pdats p c).arrAt w (cfgs p).N = V' c (Proc.devRef .tc (Pipeline.arrRef (cfgs p).spec w)))
    (hrest : ∀ c (b : Ref sig .tc), b ∉ Finset.univ.image (Pipeline.arrRef (cfgs p).spec) → V' c (Proc.devRef .tc b) = V c (Proc.devRef .tc b))
    (hbody : ∀ c, BodyObligation (pdats p c) (defs₀ (F := F)) 𝒱₀ none Set.univ) :
    Pipeline.RegionSeg (pcfgs (F := F)) adm pdats none defs₀ 𝒱₀ (K (F := F)).L (K (F := F)).lev p where
  win := hL.win
  block_pos := hL.block_pos
  stage_whole := hL.stage_whole
  K := PEmpty
  osem k := k.elim
  ho := Pipeline.OwnSemFacts.none _
  hbody c := (hbody c).loose
  hwaits c := Pipeline.cellsWaits_intro _ _ _ p c fun w s t =>
    (K (F := F)).mayOwe_of_bound 0 (fun q hq => by rw [Finset.mem_singleton] at hq; subst hq; exact le_rfl) fun g ι h =>
      (Nat.succ_pos _).trans_le (SparseCore.Cfg.lev_of_Otc_pos (howed c t ▸ h))
  pre c := iprop(unscopedBufs c (fun b => V c (Proc.devRef .tc b)) ∗ dues c n)
  post c := iprop(unscopedBufs c (fun b => V' c (Proc.devRef .tc b)) ∗ dues c n)
  X _ := BI.emp
  Y _ := BI.emp
  Z c := Pipeline.unscopedRest (Ix := HIx 1) (Name := ℕ) (U := UU) (Lvl := ℕ) (cfgs p).spec c (fun b => V c (Proc.devRef .tc b))
  hentry c := by
    rw [Pipeline.ownSems0_none]
    have hsplit := Pipeline.arrays_of_unscopedBufs_shared (p := p) (pcfgs (F := F)) adm pdats hL.win hL.sharedIn hL.arr_whole c
      (hq c) (fun b => V c (Proc.devRef .tc b)) (hA c)
    iintro ⟨⟨Hub, HO⟩, -, -⟩
    ihave H := hsplit $$ Hub
    icases H with ⟨Ha, Hrest⟩
    imodintro
    isplitl [Ha]; · iexact Ha
    isplitr; · rw [Pipeline.prefHeld_of_none _ rfl]; iempintro
    isplitl [HO]
    · unfold Pipeline.Dat.owesAt Pipeline.owesWithin
      rw [howed]
      icases HO with ⟨%W, %hW, HO⟩; iexists W; isplitr
      · ipureintro
        intro q hq
        exact Or.inl (by rw [hrecd]; exact hW q hq)
      iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays_shared (p := p) (pcfgs (F := F)) adm (Ix := HIx 1) (Name := ℕ) (U := UU) (Lvl := ℕ) hL.win hL.sharedIn hL.arr_whole c
      pdats (hq c) (fun b => V c (Proc.devRef .tc b)) (fun b => V' c (Proc.devRef .tc b)) ((pdats p c).arrAt · (cfgs p).N) (hF c) (hrest c)
    iintro ⟨Ha, HO, -, Hrest⟩
    imodintro
    isplitl [Ha Hrest]
    · iapply hjoin; isplitl [Ha] <;> iassumption
    unfold Pipeline.Dat.owesAt Pipeline.owesWithin
    rw [howed]
    icases HO with ⟨%W, %hW, HO⟩; iexists W; isplitr
    · ipureintro
      intro q hq
      rcases hW hq with h | ⟨w, s, h⟩
      · rw [hrecd] at h; exact h
      · rw [h]; exact Nat.zero_le _
    iexact HO

end Cert.Proof.Gather

end
-- ==== Proof.Launch.lean ====
/-
  The call as the two SparseCores and their sixteen tiles each share it: every tile a share of the index list and of the
  table and its own rows of the output, all of them back at the end with the output gathered.
-/
module

public import proofs.«01_k».proof.Proof.Tile
public import proofs.«01_k».proof.Proof.Entry
public import Idealize.ShloMosaic.Lib.ShareLeaves

@[expose] public section

noncomputable section

namespace Cert.Proof.Gather

open Cert.KernelIdeal Cert.KernelIdeal.Gen
open Cert.Proof.Words

open Idealize.ShloMosaic
open Idealize.ShloMosaic.SparseCore (S V T)
open Idealize.ShloMosaic.SparseCore.Cfg (HIx Pay)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Shares and rows -/

/-- A SparseCore's share of what all read, and a tile's share of that. -/
def coreShare (c : ℕ) : PosShare TreeShare := leaf 1 fullShare ⟨c % 2, by omega⟩
def tileShare (c s : ℕ) : PosShare TreeShare := leaf 4 (coreShare c) ⟨s % 16, by omega⟩

/-- A SparseCore's rows of the output. -/
def coreSet (c : ℕ) : Finset S819200x128.Idx := Finset.univ.filter fun y => (y 0).val / 409600 = c

variable {d : Dev nD}

theorem read_cores {ℓ : Loc nD τ sig} (f : Buf (Elt F) ℓ) :
    (ℓ ↦{fullShare} f : sProp 𝕄) = bigSep Finset.univ fun c : Fin 2 => ℓ ↦{coreShare c.val} f := by
  refine (pointsTo_leaves Finset.univ f 1 fullShare).trans ?_
  refine bigSep_congr (I := Fin 2) fun c _ => ?_
  unfold coreShare
  congr 2
  exact Fin.ext (Nat.mod_eq_of_lt c.isLt).symm

theorem read_tiles {ℓ : Loc nD τ sig} (f : Buf (Elt F) ℓ) (c : ℕ) :
    (ℓ ↦{coreShare c} f : sProp 𝕄) = bigSep Finset.univ fun s : Fin 16 => ℓ ↦{tileShare c s.val} f := by
  refine (pointsTo_leaves Finset.univ f 4 (coreShare c)).trans ?_
  refine bigSep_congr (I := Fin 16) fun s _ => ?_
  unfold tileShare
  congr 2
  exact Fin.ext (Nat.mod_eq_of_lt s.isLt).symm

theorem coreSet_disjoint : ∀ i ∈ (Finset.univ : Finset (Fin 2)), ∀ j ∈ (Finset.univ : Finset (Fin 2)), i ≠ j → Disjoint (coreSet i.val) (coreSet j.val) := by
  intro i _ j _ h
  rw [Finset.disjoint_left]
  intro y
  simp only [coreSet, Finset.mem_filter, Finset.mem_univ, _root_.true_and]
  intro h1 h2
  exact h (Fin.ext (by omega))

theorem coreSet_cover : (Finset.univ : Finset (Fin 2)).biUnion (fun c => coreSet c.val) = Finset.univ := by
  ext y
  simp only [coreSet, Finset.mem_biUnion, Finset.mem_filter, Finset.mem_univ, _root_.true_and, iff_true]
  have : (y 0).val < 819200 := (y 0).isLt
  exact ⟨⟨(y 0).val / 409600, by omega⟩, rfl⟩

theorem tileSet_disjoint (c : ℕ) : ∀ i ∈ (Finset.univ : Finset (Fin 16)), ∀ j ∈ (Finset.univ : Finset (Fin 16)), i ≠ j →
    Disjoint (tileSet (i.val + 16 * c)) (tileSet (j.val + 16 * c)) := by
  intro i _ j _ h
  rw [Finset.disjoint_left]
  intro y
  simp only [tileSet, Finset.mem_filter, Finset.mem_univ, _root_.true_and]
  intro h1 h2
  exact h (Fin.ext (by omega))

theorem tileSet_cover (c : ℕ) : (Finset.univ : Finset (Fin 16)).biUnion (fun s => tileSet (s.val + 16 * c)) = coreSet c := by
  ext y
  simp only [tileSet, coreSet, Finset.mem_biUnion, Finset.mem_filter, Finset.mem_univ, _root_.true_and]
  constructor
  · rintro ⟨s, hs⟩
    have := s.isLt
    omega
  · intro h
    exact ⟨⟨(y 0).val / 25600 - 16 * c, by omega⟩, by show _ = (y 0).val / 25600 - 16 * c + 16 * c; omega⟩

theorem out_cores (f : Buf (Elt F) (oLoc d)) :
    (oLoc d ↦{fullShare} f : sProp 𝕄) = bigSep Finset.univ fun c : Fin 2 => oLoc d ↦[coreSet c.val]{fullShare} f := by
  rw [← pointsTo_biUnion Finset.univ (ℓ := oLoc d) (fun c : Fin 2 => coreSet c.val) coreSet_disjoint, coreSet_cover]

theorem out_tiles (c : ℕ) (f : Buf (Elt F) (oLoc d)) :
    (oLoc d ↦[coreSet c]{fullShare} f : sProp 𝕄) = bigSep Finset.univ fun s : Fin 16 => oLoc d ↦[tileSet (s.val + 16 * c)]{fullShare} f := by
  rw [← pointsTo_biUnion Finset.univ (ℓ := oLoc d) (fun s : Fin 16 => tileSet (s.val + 16 * c)) (tileSet_disjoint c), tileSet_cover]

/-- The same, each part with contents of its own. -/
theorem out_cores_some (f : Buf (Elt F) (oLoc d)) : (oLoc d ↦{fullShare} f : sProp 𝕄)
    ⊢ bigSep Finset.univ fun c : Fin 2 => (iprop(∃ f : Buf (Elt F) (oLoc d), oLoc d ↦[coreSet c.val]{fullShare} f) : sProp 𝕄) :=
  BIBase.Entails.trans (Entails.of_eq (out_cores f))
    (bigSep_mono fun c _ => exists_intro (Φ := fun f : Buf (Elt F) (oLoc d) => (oLoc d ↦[coreSet c.val]{fullShare} f : sProp 𝕄)) f)
theorem out_tiles_some (c : ℕ) (f : Buf (Elt F) (oLoc d)) : (oLoc d ↦[coreSet c]{fullShare} f : sProp 𝕄)
    ⊢ bigSep Finset.univ fun s : Fin 16 => (iprop(∃ f : Buf (Elt F) (oLoc d), oLoc d ↦[tileSet (s.val + 16 * c)]{fullShare} f) : sProp 𝕄) :=
  BIBase.Entails.trans (Entails.of_eq (out_tiles c f))
    (bigSep_mono fun s _ => exists_intro (Φ := fun f : Buf (Elt F) (oLoc d) => (oLoc d ↦[tileSet (s.val + 16 * c)]{fullShare} f : sProp 𝕄)) f)

/-! ## What the handshakes carry -/

variable (fi : (d : Dev nD) → Buf (Elt F) (iLoc d)) (ft : (d : Dev nD) → Buf (Elt F) (tLoc d))

abbrev CoreIn (d : Dev nD) (c : ℕ) : sProp 𝕄 :=
  iprop((iLoc d ↦{coreShare c} fi d) ∗ (tLoc d ↦{coreShare c} ft d) ∗ ∃ f : Buf (Elt F) (oLoc d), oLoc d ↦[coreSet c]{fullShare} f)
abbrev CoreOut (d : Dev nD) (c : ℕ) : sProp 𝕄 :=
  iprop((iLoc d ↦{coreShare c} fi d) ∗ (tLoc d ↦{coreShare c} ft d) ∗ oLoc d ↦[coreSet c]{fullShare} Gv d (fi d) (ft d))

def P : (K (F := F)).Pay (nD := nD) (Val := Elt F) (Name := ℕ) (U := UU) where
  st := fun q d c => match q with | 0 => CoreIn fi ft d c.val
  dn := fun q d c => match q with | 0 => CoreOut fi ft d c.val
  go := fun q d c i => match q with | 0 => TileIn d (fi d) (ft d) (tileShare c.val i.val) (i.val + 16 * c.val)
  td := fun q d c i => match q with | 0 => TileOut d (fi d) (ft d) (tileShare c.val i.val) (i.val + 16 * c.val)
  x := fun _ _ => iprop(emp)

instance P_storable : (P (F := F) fi ft).IsStorable where
  st q d c := match q with
    | 0 => (inferInstance : BI.Storable (upEmb : UEmb _ 𝕄) (CoreIn fi ft d c.val))
  dn q d c := match q with
    | 0 => (inferInstance : BI.Storable (upEmb : UEmb _ 𝕄) (CoreOut fi ft d c.val))
  go q d c i := match q with
    | 0 => (inferInstance : BI.Storable (upEmb : UEmb _ 𝕄) (TileIn d (fi d) (ft d) (tileShare c.val i.val) (i.val + 16 * c.val)))
  td q d c i := match q with
    | 0 => (inferInstance : BI.Storable (upEmb : UEmb _ 𝕄) (TileOut d (fi d) (ft d) (tileShare c.val i.val) (i.val + 16 * c.val)))

/-! ## The tiles' obligation -/

def coords (c : Fin (grid2.bound 0)) (s : Fin (grid2.bound 1)) : grid2.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 2 ()
      = SparseCore.onTile hcore2 hsub2 (fun c s => cc2_gather_kernel (coords c s)
          tM (Memref.isWhole_whole _) iM (Memref.isWhole_whole _) oM (Memref.isWhole_whole _)
          aM (Memref.isWhole_whole _) cc2_scoped1 bM (Memref.isWhole_whole _) cc2_scoped3 cc2_scoped4) ⟨⟩ c s := rfl

theorem widen_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro
    intro p hp
    exact (hW' p hp).imp id Or.inl
  · iexact HO

set_option maxRecDepth 16384 in
theorem tileObl (hrows : ∀ d, InRows (fi d)) : (K (F := F)).TileObl (D (F := F)) 𝒱 (P fi ft) v₀ 0 := by
  intro d c i O W hO _ _
  simp only [show (P fi ft).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (coords ⟨_, hci.1⟩ ⟨_, hci.2⟩) (fi d) (ft d) facts (tileShare c.val i.val) (hrows d) O W hO).trans
    (wp_mono frame _ _ fun _ => widen_post)

/-! ## A SparseCore's part to its tiles, and back -/

theorem vecSplit : (K (F := F)).VecSplit' (P fi ft) 0 := by
  intro d c
  show CoreIn fi ft d c.val ⊢ |={Set.univ}=> iprop(
      (bigSep Finset.univ fun i : Fin 16 => TileIn d (fi d) (ft d) (tileShare c.val i.val) (i.val + 16 * c.val))
      ∗ ((bigSep Finset.univ fun i : Fin 16 => TileOut d (fi d) (ft d) (tileShare c.val i.val) (i.val + 16 * c.val))
          -∗ CoreOut fi ft d c.val))
  unfold CoreIn CoreOut TileOut TileIn
  rw [read_tiles (fi d), read_tiles (ft d), out_tiles c.val (Gv d (fi d) (ft d)), bigSep_sep', bigSep_sep', bigSep_sep', bigSep_sep']
  iintro ⟨Hi, Ht, %f, Ho⟩
  imodintro
  isplitl [Hi Ht Ho]
  · isplitl [Hi]; · iexact Hi
    isplitl [Ht]; · iexact Ht
    iapply (out_tiles_some c.val f) $$ Ho
  iintro ⟨Hi, Ht, Ho⟩
  isplitl [Hi]; · iexact Hi
  isplitl [Ht]; · iexact Ht
  iexact Ho

/-- The whole arrays to the two SparseCores. -/
theorem st_intro (d : Dev nD) : iprop((iLoc d ↦{fullShare} fi d) ∗ (tLoc d ↦{fullShare} ft d) ∗ ∃ f : Buf (Elt F) (oLoc d), oLoc d ↦{fullShare} f)
    ⊢ (bigSep Finset.univ fun c : Fin ((K (F := F)).nCore 0) => (P fi ft).st 0 d c) := by
  show _ ⊢ bigSep Finset.univ fun c : Fin 2 => CoreIn fi ft d c.val
  unfold CoreIn
  rw [read_cores (fi d), read_cores (ft d), bigSep_sep', bigSep_sep']
  iintro ⟨Hi, Ht, %f, Ho⟩
  isplitl [Hi]; · iexact Hi
  isplitl [Ht]; · iexact Ht
  iapply (out_cores_some f) $$ Ho

/-- and back, the output gathered. -/
theorem dn_elim (d : Dev nD) : (bigSep Finset.univ fun c : Fin ((K (F := F)).nCore 0) => (P fi ft).dn 0 d c)
    ⊢ iprop((iLoc d ↦{fullShare} fi d) ∗ (tLoc d ↦{fullShare} ft d) ∗ oLoc d ↦{fullShare} Gv d (fi d) (ft d)) := by
  show (bigSep Finset.univ fun c : Fin 2 => CoreOut fi ft d c.val) ⊢ _
  unfold CoreOut
  rw [read_cores (fi d), read_cores (ft d), out_cores (Gv d (fi d) (ft d)), bigSep_sep', bigSep_sep']

/-! ## The launch element of the ghost state -/

theorem phinj : Function.Injective (Pipeline.cellOf (nD := nD) (τ := τ) (Pipeline.pin (pcfgs (F := F)) adm)) := cellOf_inj

/-- The handshakes' rounds, the pipelines' rounds, and no counter. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem own_EP (x : UP) : (BI.own (((Emb.inl : Emb UP (UP × Counters)).trans embR) x) : sProp 𝕄) ⊢ BI.own (EP (F := F) x) :=
  Entails.of_eq rfl

/-- What device `d` is dealt for its three pipelines. -/
abbrev Dealt (d : Dev nD) : sProp 𝕄 :=
  iprop((bigSep Finset.univ fun p : Fin 3 => Pipeline.cellsGhost (Pipeline.pin (pcfgs (F := F)) adm) EP p d)
    ∗ bigSep Finset.univ fun p : Fin 3 => Pipeline.toksInit (Pipeline.pin (pcfgs (F := F)) adm) EP p d)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Dealt (F := F) d)
        ∗ bigSep Finset.univ fun thr : Thread nD τ => bigSep Finset.univ fun q : Fin 1 => (P fi ft).x q thr) := by
  unfold u₀
  iintro Hu
  ihave H := (ownU_pair (initOf (K (F := F)).hsCells (K (F := F)).hsToks)
    (initOf (Pipeline.cells (Pipeline.pin (pcfgs (F := F)) adm) phinj) (Pipeline.launchToks (Pipeline.pin (pcfgs (F := F)) adm) phinj), (1 : Counters))) $$ Hu
  icases H with ⟨HH, HR⟩
  ihave H := (own_pair_emb embR
    (initOf (Pipeline.cells (Pipeline.pin (pcfgs (F := F)) adm) phinj) (Pipeline.launchToks (Pipeline.pin (pcfgs (F := F)) adm) phinj)) (1 : Counters)) $$ HR
  icases H with ⟨HP', -⟩
  ihave HP := (own_EP _) $$ HP'
  imod (Pipeline.fund_ghost (Pipeline.pin (pcfgs (F := F)) adm) (EP (F := F)) phinj) $$ HP with ⟨Hc, Ht⟩
  imodintro
  isplitl [HH]; · iexact HH
  isplitl [Hc Ht]
  · rw [bigSep_sep']
    isplitl [Hc] <;> iassumption
  rw [show (bigSep Finset.univ fun thr : Thread nD τ => bigSep Finset.univ fun q : Fin 1 => (P (F := F) fi ft).x q thr) = bigSep Finset.univ fun _ => iprop(emp) from
    bigSep_congr fun _ _ => bigSep_univ_of_subsingleton (0 : Fin 1), bigSep_nothing]
  iempintro

end Cert.Proof.Gather

end
-- ==== Proof.Region0.lean ====
/-
  The first pipelined call: each block of the padded table is replaced by the inverse of its softplus, so that the whole
  array it leaves is one function of the array it finds, element by element.
-/
module

public import proofs.«01_k».proof.Proof.Entry
public import proofs.«01_k».proof.Proof.Gen.KernelIdeal.Points
public import Idealize.ShloMosaic.Lib.Pipeline.FrameBody
public import Idealize.ShloMosaic.Lib.Pipeline.ValueKit

@[expose] public section

noncomputable section

namespace Cert.Proof.Gather

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

namespace C0

abbrev r0 : Rect S2048x128 := Rect.unit (s := S2048x128) ![0, 0] S2048x128.size inb_S2048x128_S2048x128_0_0

theorem hz : (![0, 0] : Fin 2 → ℕ) = fun _ => 0 := by decide

/-- What the body leaves in the result's block. -/
def out (x : Vec F S2048x128 .f32) : Vec F S2048x128 .f32 := View.canon [⟨r0, k0_pay1 (View.ld x r0)⟩]

theorem out_eq (x : Vec F S2048x128 .f32) : out x = k0_pay1 x := by
  unfold out
  rw [View.canon_unit_zero hz, View.ld_unit_zero hz]

theorem cover (p : Vec F S2048x128 .f32) (y : S2048x128.Idx) :
    ∃ pc ∈ ([⟨r0, p⟩] : List (View.Piece (Elt F) S2048x128 .f32)), y ∈ pc.1.set :=
  View.cover_of_tiled [⟨r0, p⟩] S2048x128.size (by rfl) y

/-- The body on whole blocks. -/
theorem run (c : Dev nD) (E : Set ℕ) (i : grid0.Coords) (M0 : Memref sig .tc .vmem S2048x128 .f32) (h0 : M0.IsWhole)
    (M1 : Memref sig .tc .vmem S2048x128 .f32) (h1 : M1.IsWhole) (x0 : Vec F S2048x128 .f32) (Q : PUnit → sProp 𝕄) :
    iprop(owns (c : Thread nD τ) M0 fullShare x0 ∗ (∃ d, owns (c : Thread nD τ) M1 fullShare d)
        ∗ (iprop(owns (c : Thread nD τ) M0 fullShare x0 ∗ owns (c : Thread nD τ) M1 fullShare (out x0)) -∗ Q ⟨⟩))
      ⊢ wp frame (wpE (defs₀ (F := F)) Variants.none c none) E (cc0__inv_softplus_body i M0 h0 M1 h1) Q := by
  simp only [cc0__inv_softplus_body_eq_skeleton]; unfold cc0__inv_softplus_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

variable (Vv : Dev nD → Vals F)

/-- A window's block of the array the call finds. -/
abbrev blk (c : Dev nD) (w : Fin cfg0.W) (t : Fin cfg0.N) : ((cfg0.win w).xblock (cfg0.grid.coords t)).Idx → Elt F (cfg0.win w).elt :=
  ((cfg0.win w).blk t).view.read (Elt F) (Vv c (Proc.devRef .tc (Pipeline.arrRef cfg0.spec w)))

/-- The call's proof data. -/
def dat (c : Dev nD) : Dat τ (Elt F) (HIx 1) ℕ UU ℕ cfg0 c where
  A w := Vv c (Proc.devRef .tc (Pipeline.arrRef cfg0.spec w))
  after w t := match w with
    | ⟨0, _⟩ => blk Vv c 0 t
    | ⟨1, _⟩ => out (blk Vv c 0 t)
  Φ _ := Pipeline.scopedRest (Ix := HIx 1) (Name := ℕ) (U := UU) (Lvl := ℕ) (Val := Elt F) cfg0.spec c
  q w := Pipeline.shareOf cfg0.spec w
  owed _ := (K (F := F)).Otc c 0
  recorded _ := recd (F := F) c 0

theorem after_0 (c : Dev nD) (t : Fin cfg0.N) : (dat Vv c).after 0 t = blk Vv c 0 t := by dsimp only [dat]
theorem after_1 (c : Dev nD) (t : Fin cfg0.N) : (dat Vv c).after 1 t = out (blk Vv c 0 t) := by dsimp only [dat]

theorem before_0 (c : Dev nD) (t : Fin cfg0.N) (d) : (dat Vv c).before 0 t d = blk Vv c 0 t :=
  ((dat Vv c).before_in_eq_fetched 0 rfl (fun _ => rfl) (fun _ _ _ => rfl) (fun t => by rw [after_0]; rfl) t d).trans rfl

/-- The table's row at a point's blocks. -/
theorem defs₀_row (t : Fin cfg0.N) : defs₀ (F := F) .tc cfg0.body (cfg0.bodyArgs t (cfg0.slots t)) = bodyAt0 t := by
  rfl

theorem obligation (c : Dev nD) : BodyObligation (dat Vv c) (defs₀ (F := F)) 𝒱₀ none Set.univ := fun t => by
  rw [bigSep_W0, bigSep_W0, defs₀_row]
  simp only [before_0]
  rw [show (dat Vv c).Φ t.succ = (dat Vv c).Φ t.castSucc from rfl,
    show (dat Vv c).owesAt none t.succ = (dat Vv c).owesAt none t.castSucc from rfl, after_0, after_1]
  iintro ⟨HΦ, Ho, ⟨%d0, H0⟩, ⟨%d1, H1⟩⟩
  iapply (run c Set.univ (grid0.coords t) _ _ _ _ (blk Vv c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-! ## The array it leaves -/

/-- One over the softplus, as the call computes it. -/
def inv (v : F .f32) : F .f32 :=
  FloatOps.divf (FloatOps.ofBits .f32 0x3F800000#32)
    (FloatOps.addf (FloatOps.maximumf v (FloatOps.ofBits .f32 0x00000000#32))
      (FloatOps.log1p (FloatOps.exp (FloatOps.subf (FloatOps.ofBits .f32 0x00000000#32) (FloatOps.absf v)))))

theorem pay_apply (x : Vec F S2048x128 .f32) (y : S2048x128.Idx) : k0_pay1 x y = inv (x y) := by
  unfold k0_pay1
  rw [shapeCast_self]
  rfl

theorem idx_0 : ∀ t : Fin cfg0.N, win0_0.index t = ![(grid0.coords t 0).val, 0] :=
  (by decide +kernel : ∀ t : Fin grid0.N, _)
theorem idx_1 : ∀ t : Fin cfg0.N, win0_1.index t = ![(grid0.coords t 0).val, 0] :=
  (by decide +kernel : ∀ t : Fin grid0.N, _)

theorem final (c : Dev nD) :
    (dat Vv c).arrAt 1 cfg0.N = fun y : S100352x128.Idx => inv (Vv c (Proc.devRef .tc main_v0) y) := by
  refine (dat Vv c).arrAt_eq_of_covers 1 _ (by decide +kernel) fun t _ y => ?_
  blk_simp
  rw [after_1, out_eq, pay_apply]
  refine congrArg inv ?_
  blk_ext [idx_0 t, idx_1 t]

end C0

end Cert.Proof.Gather

end
-- ==== Proof.Region1.lean ====
/-
  The second pipelined call: the shape parameter of every element and the logarithm of the gamma function there, each a
  function of the element of the array the call finds.
-/
module

public import proofs.«01_k».proof.Proof.Entry
public import proofs.«01_k».proof.Proof.Gen.KernelIdeal.Points
public import Idealize.ShloMosaic.Lib.Pipeline.FrameBody
public import Idealize.ShloMosaic.Lib.Pipeline.ValueKit

@[expose] public section

noncomputable section

namespace Cert.Proof.Gather

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

namespace C1

abbrev r0 : Rect S1600x128 := Rect.unit (s := S1600x128) ![0, 0] S1600x128.size inb_S1600x128_S1600x128_0_0

theorem hz : (![0, 0] : Fin 2 → ℕ) = fun _ => 0 := by decide

/-- What the body leaves in each result's block. -/
def outA (x : Vec F S1600x128 .f32) : Vec F S1600x128 .f32 := View.canon [⟨r0, k1_pay2 (View.ld x r0)⟩]
def outL (x : Vec F S1600x128 .f32) : Vec F S1600x128 .f32 :=
  View.canon [⟨r0, k1_pay1 (k1_pay5 (View.ld x r0)) (k1_pay6 (View.ld x r0)) (k1_pay7 (View.ld x r0)) (k1_pay8 (View.ld x r0))⟩]

theorem outA_eq (x : Vec F S1600x128 .f32) : outA x = k1_pay2 x := by
  unfold outA
  rw [View.canon_unit_zero hz, View.ld_unit_zero hz]

theorem outL_eq (x : Vec F S1600x128 .f32) : outL x = k1_pay1 (k1_pay5 x) (k1_pay6 x) (k1_pay7 x) (k1_pay8 x) := by
  unfold outL
  rw [View.canon_unit_zero hz, View.ld_unit_zero hz]

theorem cover (p : Vec F S1600x128 .f32) (y : S1600x128.Idx) :
    ∃ pc ∈ ([⟨r0, p⟩] : List (View.Piece (Elt F) S1600x128 .f32)), y ∈ pc.1.set :=
  View.cover_of_tiled [⟨r0, p⟩] S1600x128.size (by rfl) y

/-- The body on whole blocks. -/
theorem run (c : Dev nD) (E : Set ℕ) (i : grid1.Coords) (M0 : Memref sig .tc .vmem S1600x128 .f32) (h0 : M0.IsWhole)
    (M1 : Memref sig .tc .vmem S1600x128 .f32) (h1 : M1.IsWhole) (M2 : Memref sig .tc .vmem S1600x128 .f32) (h2 : M2.IsWhole)
    (x0 : Vec F S1600x128 .f32) (Q : PUnit → sProp 𝕄) :
    iprop(owns (c : Thread nD τ) M0 fullShare x0 ∗ (∃ d, owns (c : Thread nD τ) M1 fullShare d) ∗ (∃ d, owns (c : Thread nD τ) M2 fullShare d)
        ∗ (iprop(owns (c : Thread nD τ) M0 fullShare x0 ∗ owns (c : Thread nD τ) M1 fullShare (outA x0) ∗ owns (c : Thread nD τ) M2 fullShare (outL x0)) -∗ Q ⟨⟩))
      ⊢ wp frame (wpE (defs₀ (F := F)) Variants.none c none) E (cc1__rowmath_body i M0 h0 M1 h1 M2 h2) Q := by
  simp only [cc1__rowmath_body_eq_skeleton]; unfold cc1__rowmath_body_skel
  simp only [k1_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover _)
  iexists _; isplitr
  swap; · iexact H2
  ipureintro
  exact View.read_writes_eq_canon _ _ _ (cover _)

variable (Vv : Dev nD → Vals F)

/-- A window's block of the array the call finds. -/
abbrev blk (c : Dev nD) (w : Fin cfg1.W) (t : Fin cfg1.N) : ((cfg1.win w).xblock (cfg1.grid.coords t)).Idx → Elt F (cfg1.win w).elt :=
  ((cfg1.win w).blk t).view.read (Elt F) (Vv c (Proc.devRef .tc (Pipeline.arrRef cfg1.spec w)))

/-- The call's proof data. -/
def dat (c : Dev nD) : Dat τ (Elt F) (HIx 1) ℕ UU ℕ cfg1 c where
  A w := Vv c (Proc.devRef .tc (Pipeline.arrRef cfg1.spec w))
  after w t := match w with
    | ⟨0, _⟩ => blk Vv c 0 t
    | ⟨1, _⟩ => outA (blk Vv c 0 t)
    | ⟨2, _⟩ => outL (blk Vv c 0 t)
  Φ _ := Pipeline.scopedRest (Ix := HIx 1) (Name := ℕ) (U := UU) (Lvl := ℕ) (Val := Elt F) cfg1.spec c
  q w := Pipeline.shareOf cfg1.spec w
  owed _ := (K (F := F)).Otc c 0
  recorded _ := recd (F := F) c 0

theorem after_0 (c : Dev nD) (t : Fin cfg1.N) : (dat Vv c).after 0 t = blk Vv c 0 t := by dsimp only [dat]
theorem after_1 (c : Dev nD) (t : Fin cfg1.N) : (dat Vv c).after 1 t = outA (blk Vv c 0 t) := by dsimp only [dat]
theorem after_2 (c : Dev nD) (t : Fin cfg1.N) : (dat Vv c).after 2 t = outL (blk Vv c 0 t) := by dsimp only [dat]

theorem before_0 (c : Dev nD) (t : Fin cfg1.N) (d) : (dat Vv c).before 0 t d = blk Vv c 0 t :=
  ((dat Vv c).before_in_eq_fetched 0 rfl (fun _ => rfl) (fun _ _ _ => rfl) (fun t => by rw [after_0]; rfl) t d).trans rfl

/-- The table's row at a point's blocks. -/
theorem defs₀_row (t : Fin cfg1.N) : defs₀ (F := F) .tc cfg1.body (cfg1.bodyArgs t (cfg1.slots t)) = bodyAt1 t := by
  rfl

theorem obligation (c : Dev nD) : BodyObligation (dat Vv c) (defs₀ (F := F)) 𝒱₀ none Set.univ := fun t => by
  rw [bigSep_W1, bigSep_W1, defs₀_row]
  simp only [before_0]
  rw [show (dat Vv c).Φ t.succ = (dat Vv c).Φ t.castSucc from rfl,
    show (dat Vv c).owesAt none t.succ = (dat Vv c).owesAt none t.castSucc from rfl, after_0, after_1, after_2]
  iintro ⟨HΦ, Ho, ⟨%d0, H0⟩, ⟨%d1, H1⟩, ⟨%d2, H2⟩⟩
  iapply (run c Set.univ (grid1.coords t) _ _ _ _ _ _ (blk Vv c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-! ## The arrays it leaves -/

/-- A word as a value. -/
abbrev w (b : BitVec 32) : F .f32 := FloatOps.ofBits .f32 b

/-- The shape parameter of a trace. -/
def shp (v : F .f32) : F .f32 :=
  FloatOps.mulf (FloatOps.mulf (w 0x3F000000#32) (FloatOps.log (FloatOps.addf v (w 0x3089705F#32))))
    (FloatOps.log (FloatOps.addf v (w 0x3089705F#32)))

/-- The logarithm of the gamma function at one more than a shape parameter: Stirling's series eight above, less the
    logarithm of the product of the eight steps between. -/
def lgm (a : F .f32) : F .f32 :=
  let z := FloatOps.addf a (w 0x3F800000#32)
  let s := FloatOps.addf z (w 0x41000000#32)
  let p := FloatOps.mulf (FloatOps.mulf (FloatOps.mulf (FloatOps.mulf (FloatOps.mulf (FloatOps.mulf (FloatOps.mulf z
    (FloatOps.addf z (w 0x3F800000#32))) (FloatOps.addf z (w 0x40000000#32))) (FloatOps.addf z (w 0x40400000#32)))
    (FloatOps.addf z (w 0x40800000#32))) (FloatOps.addf z (w 0x40A00000#32))) (FloatOps.addf z (w 0x40C00000#32)))
    (FloatOps.addf z (w 0x40E00000#32))
  let r := FloatOps.divf (w 0x3F800000#32) s
  let r2 := FloatOps.mulf r r
  let m := FloatOps.addf (FloatOps.subf (FloatOps.mulf (FloatOps.subf s (w 0x3F000000#32)) (FloatOps.log s)) s) (w 0x3F6B3F8E#32)
  FloatOps.subf (FloatOps.addf m (FloatOps.mulf r (FloatOps.subf (w 0x3DAAAAAB#32)
    (FloatOps.mulf r2 (FloatOps.subf (w 0x3B360B61#32) (FloatOps.mulf r2 (w 0x3A500D01#32))))))) (FloatOps.log p)

theorem payA_apply (x : Vec F S1600x128 .f32) (y : S1600x128.Idx) : k1_pay2 x y = shp (x y) := by
  unfold k1_pay2
  rw [shapeCast_self]
  rfl

theorem payL_apply (x : Vec F S1600x128 .f32) (y : S1600x128.Idx) :
    k1_pay1 (k1_pay5 x) (k1_pay6 x) (k1_pay7 x) (k1_pay8 x) y = lgm (shp (x y)) := by
  rw [← payA_apply]
  rfl

theorem idx_0 : ∀ t : Fin cfg1.N, win1_0.index t = ![(grid1.coords t 0).val, 0] :=
  (by decide +kernel : ∀ t : Fin grid1.N, _)
theorem idx_1 : ∀ t : Fin cfg1.N, win1_1.index t = ![(grid1.coords t 0).val, 0] :=
  (by decide +kernel : ∀ t : Fin grid1.N, _)
theorem idx_2 : ∀ t : Fin cfg1.N, win1_2.index t = ![(grid1.coords t 0).val, 0] :=
  (by decide +kernel : ∀ t : Fin grid1.N, _)

theorem finalA (c : Dev nD) :
    (dat Vv c).arrAt 1 cfg1.N = fun y : S6400x128.Idx => shp (Vv c (Proc.devRef .tc main_v2) y) := by
  refine (dat Vv c).arrAt_eq_of_covers 1 _ (by decide +kernel) fun t _ y => ?_
  blk_simp
  rw [after_1, outA_eq, payA_apply]
  refine congrArg shp ?_
  blk_ext [idx_0 t, idx_1 t]

theorem finalL (c : Dev nD) :
    (dat Vv c).arrAt 2 cfg1.N = fun y : S6400x128.Idx => lgm (shp (Vv c (Proc.devRef .tc main_v2) y)) := by
  refine (dat Vv c).arrAt_eq_of_covers 2 _ (by decide +kernel) fun t _ y => ?_
  blk_simp
  rw [after_2, outL_eq, payL_apply]
  refine congrArg (fun x => lgm (shp x)) ?_
  blk_ext [idx_0 t, idx_2 t]

end C1

end Cert.Proof.Gather

end
-- ==== Proof.Region3.lean ====
/-
  The last pipelined call: every element's factor, from the inverse rate gathered for it and its row's shape parameter,
  log-gamma and behaviour; each point computes a block of the first half of the rows and one of the second at once.
-/
module

public import proofs.«01_k».proof.Proof.Entry
public import proofs.«01_k».proof.Proof.Gen.KernelIdeal.Points
public import Idealize.ShloMosaic.Lib.Pipeline.FrameBody
public import Idealize.ShloMosaic.Lib.Pipeline.ValueKit
public import Idealize.ShloMosaic.Lib.Pointwise.Tactic

@[expose] public section

noncomputable section

namespace Cert.Proof.Gather

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

namespace C3

abbrev rI : Rect S3200x128 := Rect.unit (s := S3200x128) ![0, 0] S3200x64.size inb_S3200x128_S3200x64_0_0
abbrev rC : Rect S3200x1 := Rect.unit (s := S3200x1) ![0, 0] S3200x1.size inb_S3200x1_S3200x1_0_0
abbrev rL : Rect S2x3200x64 := Rect.unit (s := S2x3200x64) ![0, 0, 0] S1x3200x64.size inb_S2x3200x64_S1x3200x64_0_0_0
abbrev rH : Rect S2x3200x64 := Rect.unit (s := S2x3200x64) ![1, 0, 0] S1x3200x64.size inb_S2x3200x64_S1x3200x64_1_0_0

theorem hz : (![0, 0] : Fin 2 → ℕ) = fun _ => 0 := by decide

/-- The two halves' rows beside each other: the whole computation on them. -/
def both (v0 v2 : Vec F S3200x64 .f32) (v5 v7 v14 v16 v23 v25 : Vec F S3200x1 .f32) : FVec F S3200x128 .f32 :=
  k3_pay1 (k3_pay5 v0 v2 v23 v25) (k3_pay6 v0 v2 v5 v7 v14 v16 v23 v25)
      (k3_pay8 (k3_pay4 v5 v7) k3_pay7) (k3_pay17 (k3_pay4 v5 v7) k3_pay7)
      (k3_pay18 (k3_pay4 v5 v7) (k3_pay5 v0 v2 v23 v25) k3_pay7) (Scalar.ofBits .f32 0x3F800000#32)

/-- What the body leaves in the result's block. -/
def out (x0 : Vec F S3200x128 .f32) (x1 : Vec F S3200x128 .f32) (x2 : Vec F S3200x1 .f32) (x3 : Vec F S3200x1 .f32) (x4 : Vec F S3200x1 .f32) (x5 : Vec F S3200x1 .f32) (x6 : Vec F S3200x1 .f32) (x7 : Vec F S3200x1 .f32) : Vec F S2x3200x64 .f32 :=
  View.canon [⟨rH, k3_pay3 (k3_pay5 (View.ld x0 rI) (View.ld x1 rI) (View.ld x6 rC) (View.ld x7 rC)) (k3_pay6 (View.ld x0 rI) (View.ld x1 rI) (View.ld x2 rC) (View.ld x3 rC) (View.ld x4 rC) (View.ld x5 rC) (View.ld x6 rC) (View.ld x7 rC))
      (k3_pay8 (k3_pay4 (View.ld x2 rC) (View.ld x3 rC)) k3_pay7) (k3_pay17 (k3_pay4 (View.ld x2 rC) (View.ld x3 rC)) k3_pay7)
      (k3_pay18 (k3_pay4 (View.ld x2 rC) (View.ld x3 rC)) (k3_pay5 (View.ld x0 rI) (View.ld x1 rI) (View.ld x6 rC) (View.ld x7 rC)) k3_pay7) (Scalar.ofBits .f32 0x3F800000#32)⟩,
    ⟨rL, k3_pay2 (k3_pay5 (View.ld x0 rI) (View.ld x1 rI) (View.ld x6 rC) (View.ld x7 rC)) (k3_pay6 (View.ld x0 rI) (View.ld x1 rI) (View.ld x2 rC) (View.ld x3 rC) (View.ld x4 rC) (View.ld x5 rC) (View.ld x6 rC) (View.ld x7 rC))
      (k3_pay8 (k3_pay4 (View.ld x2 rC) (View.ld x3 rC)) k3_pay7) (k3_pay17 (k3_pay4 (View.ld x2 rC) (View.ld x3 rC)) k3_pay7)
      (k3_pay18 (k3_pay4 (View.ld x2 rC) (View.ld x3 rC)) (k3_pay5 (View.ld x0 rI) (View.ld x1 rI) (View.ld x6 rC) (View.ld x7 rC)) k3_pay7) (Scalar.ofBits .f32 0x3F800000#32)⟩]

theorem cover (p q : Vec F S1x3200x64 .f32) (y : S2x3200x64.Idx) :
    ∃ pc ∈ ([⟨rH, p⟩, ⟨rL, q⟩] : List (View.Piece (Elt F) S2x3200x64 .f32)), y ∈ pc.1.set :=
  View.cover_of_tiled [⟨rH, p⟩, ⟨rL, q⟩] S1x3200x64.size (by rfl) y

set_option maxHeartbeats 2000000 in
/-- The body on whole blocks. -/
theorem run (c : Dev nD) (E : Set ℕ) (i : grid3.Coords) (M0 : Memref sig .tc .vmem S3200x128 .f32) (h0 : M0.IsWhole) (M1 : Memref sig .tc .vmem S3200x128 .f32) (h1 : M1.IsWhole) (M2 : Memref sig .tc .vmem S3200x1 .f32) (h2 : M2.IsWhole) (M3 : Memref sig .tc .vmem S3200x1 .f32) (h3 : M3.IsWhole) (M4 : Memref sig .tc .vmem S3200x1 .f32) (h4 : M4.IsWhole) (M5 : Memref sig .tc .vmem S3200x1 .f32) (h5 : M5.IsWhole) (M6 : Memref sig .tc .vmem S3200x1 .f32) (h6 : M6.IsWhole) (M7 : Memref sig .tc .vmem S3200x1 .f32) (h7 : M7.IsWhole) (M8 : Memref sig .tc .vmem S2x3200x64 .f32) (h8 : M8.IsWhole)
    (x0 : Vec F S3200x128 .f32) (x1 : Vec F S3200x128 .f32) (x2 : Vec F S3200x1 .f32) (x3 : Vec F S3200x1 .f32) (x4 : Vec F S3200x1 .f32) (x5 : Vec F S3200x1 .f32) (x6 : Vec F S3200x1 .f32) (x7 : Vec F S3200x1 .f32) (Q : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ (∃ d, owns (c : Thread nD τ) M8 fullShare d)
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare (out x0 x1 x2 x3 x4 x5 x6 x7)) -∗ Q ⟨⟩))
      ⊢ wp frame (wpE (defs₀ (F := F)) Variants.none c none) E (cc3__factors_body i M0 h0 M1 h1 M2 h2 M3 h3 M4 h4 M5 h5 M6 h6 M7 h7 M8 h8) Q := by
  simp only [cc3__factors_body_eq_skeleton]; unfold cc3__factors_body_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover _ _)

variable (Vv : Dev nD → Vals F)

/-- A window's block of the array the call finds. -/
abbrev blk (c : Dev nD) (w : Fin cfg3.W) (t : Fin cfg3.N) : ((cfg3.win w).xblock (cfg3.grid.coords t)).Idx → Elt F (cfg3.win w).elt :=
  ((cfg3.win w).blk t).view.read (Elt F) (Vv c (Proc.devRef .tc (Pipeline.arrRef cfg3.spec w)))

/-- The result's block after a point. -/
abbrev outAt (c : Dev nD) (t : Fin cfg3.N) : Vec F S2x3200x64 .f32 :=
  out (blk Vv c 0 t) (blk Vv c 1 t) (blk Vv c 2 t) (blk Vv c 3 t) (blk Vv c 4 t) (blk Vv c 5 t) (blk Vv c 6 t) (blk Vv c 7 t)

/-- The call's proof data. -/
def dat (c : Dev nD) : Dat τ (Elt F) (HIx 1) ℕ UU ℕ cfg3 c where
  A w := Vv c (Proc.devRef .tc (Pipeline.arrRef cfg3.spec w))
  after w t := match w with
    | ⟨0, _⟩ => blk Vv c 0 t
    | ⟨1, _⟩ => blk Vv c 1 t
    | ⟨2, _⟩ => blk Vv c 2 t
    | ⟨3, _⟩ => blk Vv c 3 t
    | ⟨4, _⟩ => blk Vv c 4 t
    | ⟨5, _⟩ => blk Vv c 5 t
    | ⟨6, _⟩ => blk Vv c 6 t
    | ⟨7, _⟩ => blk Vv c 7 t
    | ⟨8, _⟩ => outAt Vv c t
  Φ _ := Pipeline.scopedRest (Ix := HIx 1) (Name := ℕ) (U := UU) (Lvl := ℕ) (Val := Elt F) cfg3.spec c
  q w := Pipeline.shareOf cfg3.spec w
  owed _ := (K (F := F)).Otc c 1
  recorded _ := recd (F := F) c 1

theorem after_0 (c : Dev nD) (t : Fin cfg3.N) : (dat Vv c).after 0 t = blk Vv c 0 t := by dsimp only [dat]
theorem after_1 (c : Dev nD) (t : Fin cfg3.N) : (dat Vv c).after 1 t = blk Vv c 1 t := by dsimp only [dat]
theorem after_2 (c : Dev nD) (t : Fin cfg3.N) : (dat Vv c).after 2 t = blk Vv c 2 t := by dsimp only [dat]
theorem after_3 (c : Dev nD) (t : Fin cfg3.N) : (dat Vv c).after 3 t = blk Vv c 3 t := by dsimp only [dat]
theorem after_4 (c : Dev nD) (t : Fin cfg3.N) : (dat Vv c).after 4 t = blk Vv c 4 t := by dsimp only [dat]
theorem after_5 (c : Dev nD) (t : Fin cfg3.N) : (dat Vv c).after 5 t = blk Vv c 5 t := by dsimp only [dat]
theorem after_6 (c : Dev nD) (t : Fin cfg3.N) : (dat Vv c).after 6 t = blk Vv c 6 t := by dsimp only [dat]
theorem after_7 (c : Dev nD) (t : Fin cfg3.N) : (dat Vv c).after 7 t = blk Vv c 7 t := by dsimp only [dat]
theorem after_8 (c : Dev nD) (t : Fin cfg3.N) : (dat Vv c).after 8 t = outAt Vv c t := by dsimp only [dat]

theorem before_0 (c : Dev nD) (t : Fin cfg3.N) (d) : (dat Vv c).before 0 t d = blk Vv c 0 t :=
  ((dat Vv c).before_in_eq_fetched 0 rfl (fun _ => rfl) (fun _ _ _ => rfl) (fun t => by rw [after_0]; rfl) t d).trans rfl
theorem before_1 (c : Dev nD) (t : Fin cfg3.N) (d) : (dat Vv c).before 1 t d = blk Vv c 1 t :=
  ((dat Vv c).before_in_eq_fetched 1 rfl (fun _ => rfl) (fun _ _ _ => rfl) (fun t => by rw [after_1]; rfl) t d).trans rfl
theorem before_2 (c : Dev nD) (t : Fin cfg3.N) (d) : (dat Vv c).before 2 t d = blk Vv c 2 t :=
  ((dat Vv c).before_in_eq_fetched 2 rfl (fun _ => rfl) (fun _ _ _ => rfl) (fun t => by rw [after_2]; rfl) t d).trans rfl
theorem before_3 (c : Dev nD) (t : Fin cfg3.N) (d) : (dat Vv c).before 3 t d = blk Vv c 3 t :=
  ((dat Vv c).before_in_eq_fetched 3 rfl (fun _ => rfl) (fun _ _ _ => rfl) (fun t => by rw [after_3]; rfl) t d).trans rfl
theorem before_4 (c : Dev nD) (t : Fin cfg3.N) (d) : (dat Vv c).before 4 t d = blk Vv c 4 t :=
  ((dat Vv c).before_in_eq_fetched 4 rfl (fun _ => rfl) (fun _ _ _ => rfl) (fun t => by rw [after_4]; rfl) t d).trans rfl
theorem before_5 (c : Dev nD) (t : Fin cfg3.N) (d) : (dat Vv c).before 5 t d = blk Vv c 5 t :=
  ((dat Vv c).before_in_eq_fetched 5 rfl (fun _ => rfl) (fun _ _ _ => rfl) (fun t => by rw [after_5]; rfl) t d).trans rfl
theorem before_6 (c : Dev nD) (t : Fin cfg3.N) (d) : (dat Vv c).before 6 t d = blk Vv c 6 t :=
  ((dat Vv c).before_in_eq_fetched 6 rfl (fun _ => rfl) (fun _ _ _ => rfl) (fun t => by rw [after_6]; rfl) t d).trans rfl
theorem before_7 (c : Dev nD) (t : Fin cfg3.N) (d) : (dat Vv c).before 7 t d = blk Vv c 7 t :=
  ((dat Vv c).before_in_eq_fetched 7 rfl (fun _ => rfl) (fun _ _ _ => rfl) (fun t => by rw [after_7]; rfl) t d).trans rfl

/-- The table's row at a point's blocks. -/
theorem defs₀_row (t : Fin cfg3.N) : defs₀ (F := F) .tc cfg3.body (cfg3.bodyArgs t (cfg3.slots t)) = bodyAt3 t := by
  rfl

set_option maxHeartbeats 1000000 in
theorem obligation (c : Dev nD) : BodyObligation (dat Vv c) (defs₀ (F := F)) 𝒱₀ none Set.univ := fun t => by
  rw [bigSep_W3, bigSep_W3, defs₀_row]
  simp only [before_0, before_1, before_2, before_3, before_4, before_5, before_6, before_7]
  rw [show (dat Vv c).Φ t.succ = (dat Vv c).Φ t.castSucc from rfl,
    show (dat Vv c).owesAt none t.succ = (dat Vv c).owesAt none t.castSucc from rfl, after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c Set.univ (grid3.coords t) _ _ _ _ _ _ _ _ _ _ _ _ _ _ _ _ _ _ (blk Vv c 0 t) (blk Vv c 1 t) (blk Vv c 2 t) (blk Vv c 3 t) (blk Vv c 4 t) (blk Vv c 5 t) (blk Vv c 6 t) (blk Vv c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The array it leaves -/

/-- A word as a value. -/
abbrev w (b : BitVec 32) : F .f32 := FloatOps.ofBits .f32 b

/-- An element's factor, from the inverse rate, the shape parameter, its log-gamma and the behaviour. -/
def fac (iv a lg b : F .f32) : F .f32 :=
  let x := FloatOps.addf (FloatOps.mulf b iv) (w 0x3089705F#32)
  let pf := FloatOps.exp (FloatOps.subf (FloatOps.subf (FloatOps.mulf a (FloatOps.log x)) x) lg)
  let s := FloatOps.minimumf a (w 0x41C00000#32)
  let p9 := FloatOps.mulf (w 0x3F800000#32) (FloatOps.addf s (w 0x41200000#32))
  let h9 := FloatOps.addf p9 (FloatOps.mulf x (w 0x3F800000#32))
  let p8 := FloatOps.mulf p9 (FloatOps.addf s (w 0x41100000#32))
  let h8 := FloatOps.addf p8 (FloatOps.mulf x h9)
  let p7 := FloatOps.mulf p8 (FloatOps.addf s (w 0x41000000#32))
  let h7 := FloatOps.addf p7 (FloatOps.mulf x h8)
  let p6 := FloatOps.mulf p7 (FloatOps.addf s (w 0x40E00000#32))
  let h6 := FloatOps.addf p6 (FloatOps.mulf x h7)
  let p5 := FloatOps.mulf p6 (FloatOps.addf s (w 0x40C00000#32))
  let h5 := FloatOps.addf p5 (FloatOps.mulf x h6)
  let p4 := FloatOps.mulf p5 (FloatOps.addf s (w 0x40A00000#32))
  let h4 := FloatOps.addf p4 (FloatOps.mulf x h5)
  let p3 := FloatOps.mulf p4 (FloatOps.addf s (w 0x40800000#32))
  let h3 := FloatOps.addf p3 (FloatOps.mulf x h4)
  let p2 := FloatOps.mulf p3 (FloatOps.addf s (w 0x40400000#32))
  let h2 := FloatOps.addf p2 (FloatOps.mulf x h3)
  let p1 := FloatOps.mulf p2 (FloatOps.addf s (w 0x40000000#32))
  let h1 := FloatOps.addf p1 (FloatOps.mulf x h2)
  let p0 := FloatOps.mulf p1 (FloatOps.addf s (w 0x3F800000#32))
  let h0 := FloatOps.addf p0 (FloatOps.mulf x h1)
  FloatOps.divf (FloatOps.mulf pf h0) p0

/-- A column repeated across the block. -/
def wide (v : Vec F S3200x1 .f32) : Vec F S3200x64 .f32 := broadcastTo S3200x64 v broadcasts_S3200x1_S3200x64
/-- Two blocks beside each other. -/
def cat (u v : Vec F S3200x64 .f32) : Vec F S3200x128 .f32 :=
  concatenate S3200x128 1 [⟨S3200x64, u⟩, ⟨S3200x64, v⟩] concatenates_S3200x64_S3200x64_S3200x128_d1

theorem both_apply (v0 v2 : Vec F S3200x64 .f32) (v5 v7 v14 v16 v23 v25 : Vec F S3200x1 .f32) (j : S3200x128.Idx) :
    both v0 v2 v5 v7 v14 v16 v23 v25 j
      = fac (cat v0 v2 j) (cat (wide v5) (wide v7) j) (cat (wide v14) (wide v16) j) (cat (wide v23) (wide v25) j) := by
  have h5 : k3_pay5 v0 v2 v23 v25 = addf (mulf (cat (wide v23) (wide v25)) (cat v0 v2)) (broadcast S3200x128 (Scalar.ofBits .f32 0x3089705F#32)) := by
    show addf (mulf (cat (wide (shapeCast S3200x1 (shapeCast S3200x1 v23 shapeCasts_S3200x1_S3200x1) shapeCasts_S3200x1_S3200x1)) (wide (shapeCast S3200x1 (shapeCast S3200x1 v25 shapeCasts_S3200x1_S3200x1) shapeCasts_S3200x1_S3200x1))) (cat (shapeCast S3200x64 v0 shapeCasts_S3200x64_S3200x64) (shapeCast S3200x64 v2 shapeCasts_S3200x64_S3200x64))) _ = _
    simp only [shapeCast_self]
  have h4 : k3_pay4 v5 v7 = cat (wide v5) (wide v7) := by
    show cat (wide (shapeCast S3200x1 (shapeCast S3200x1 v5 shapeCasts_S3200x1_S3200x1) shapeCasts_S3200x1_S3200x1)) (wide (shapeCast S3200x1 (shapeCast S3200x1 v7 shapeCasts_S3200x1_S3200x1) shapeCasts_S3200x1_S3200x1)) = _
    simp only [shapeCast_self]
  have h6 : k3_pay6 v0 v2 v5 v7 v14 v16 v23 v25
      = exp (subf (subf (mulf (k3_pay4 v5 v7) (log (k3_pay5 v0 v2 v23 v25))) (k3_pay5 v0 v2 v23 v25)) (cat (wide v14) (wide v16))) := by
    show exp (subf _ (cat (wide (shapeCast S3200x1 (shapeCast S3200x1 v14 shapeCasts_S3200x1_S3200x1) shapeCasts_S3200x1_S3200x1)) (wide (shapeCast S3200x1 (shapeCast S3200x1 v16 shapeCasts_S3200x1_S3200x1) shapeCasts_S3200x1_S3200x1)))) = _
    simp only [shapeCast_self]
  unfold both
  rw [h6, h5, h4]
  rfl

theorem cat_left (u v : Vec F S3200x64 .f32) (r : Fin 3200) (k : Fin 64) :
    cat u v (ix2 r (⟨k.val, by omega⟩ : Fin 128)) = u (ix2 r k) := by
  unfold cat; pointwise
theorem cat_right (u v : Vec F S3200x64 .f32) (r : Fin 3200) (k : Fin 64) :
    cat u v (ix2 r (⟨64 + k.val, by omega⟩ : Fin 128)) = v (ix2 r k) := by
  unfold cat; pointwise
theorem wide_apply (v : Vec F S3200x1 .f32) (r : Fin 3200) (k : Fin 64) : wide v (ix2 r k) = v (ix2 r 0) := by
  unfold wide; pointwise

/-- The first half's result is the left columns of the whole computation, the second half's the right. -/
theorem pay_left (p : FVec F S3200x128 .f32) (r : Fin 3200) (k : Fin 64) :
    shapeCast S1x3200x64 (extractStridedSlice S3200x64 ![0, 0] p slices_S3200x128_o0_0_S3200x64) shapeCasts_S3200x64_S1x3200x64 (ix3 (0 : Fin 1) r k)
      = p (ix2 r (⟨k.val, by omega⟩ : Fin 128)) := by
  pointwise
theorem pay_right (p : FVec F S3200x128 .f32) (r : Fin 3200) (k : Fin 64) :
    shapeCast S1x3200x64 (extractStridedSlice S3200x64 ![0, 64] p slices_S3200x128_o0_64_S3200x64) shapeCasts_S3200x64_S1x3200x64 (ix3 (0 : Fin 1) r k)
      = p (ix2 r (⟨64 + k.val, by omega⟩ : Fin 128)) := by
  pointwise

theorem ldI (x : Vec F S3200x128 .f32) (r : Fin 3200) (k : Fin 64) :
    View.ld x rI (ix2 r k) = x (ix2 r (⟨k.val, by omega⟩ : Fin 128)) := by
  refine View.ld_unit_apply_of _ _ _ _ _ _ fun a => ?_
  match a with
  | 0 => exact (Nat.zero_add _).symm
  | 1 => exact (Nat.zero_add _).symm

theorem ldC (x : Vec F S3200x1 .f32) : View.ld x rC = x := View.ld_unit_zero hz _ _

theorem low_notMem (r : Fin 3200) (k : Fin 64) : (ix3 (0 : Fin 2) r k : S2x3200x64.Idx) ∉ rH.set := by
  rw [Rect.mem_set_unit]
  intro h
  exact absurd (h 0).1 (by show ¬ (1 : ℕ) ≤ 0; omega)

theorem canon_low (p q : Vec F S1x3200x64 .f32) (r : Fin 3200) (k : Fin 64) :
    View.canon ([⟨rH, p⟩, ⟨rL, q⟩] : List (View.Piece (Elt F) S2x3200x64 .f32)) (ix3 (0 : Fin 2) r k) = q (ix3 (0 : Fin 1) r k) := by
  have he : (rL.emb (ix3 (0 : Fin 1) r k : S1x3200x64.Idx) : S2x3200x64.Idx) = ix3 (0 : Fin 2) r k := by
    funext a; refine Fin.ext ?_
    match a with
    | 0 => rfl
    | 1 => show 0 + 1 * r.val = r.val; omega
    | 2 => show 0 + 1 * k.val = k.val; omega
  rw [View.canon_cons_of_not_mem (⟨rH, p⟩ : View.Piece (Elt F) S2x3200x64 .f32) [⟨rL, q⟩] (low_notMem r k), ← he, View.canon_cons_emb]

theorem canon_high (p q : Vec F S1x3200x64 .f32) (r : Fin 3200) (k : Fin 64) :
    View.canon ([⟨rH, p⟩, ⟨rL, q⟩] : List (View.Piece (Elt F) S2x3200x64 .f32)) (ix3 (1 : Fin 2) r k) = p (ix3 (0 : Fin 1) r k) := by
  have he : (rH.emb (ix3 (0 : Fin 1) r k : S1x3200x64.Idx) : S2x3200x64.Idx) = ix3 (1 : Fin 2) r k := by
    funext a; refine Fin.ext ?_
    match a with
    | 0 => rfl
    | 1 => show 0 + 1 * r.val = r.val; omega
    | 2 => show 0 + 1 * k.val = k.val; omega
  rw [← he, View.canon_cons_emb]

theorem out_low (x0 : Vec F S3200x128 .f32) (x1 : Vec F S3200x128 .f32) (x2 : Vec F S3200x1 .f32) (x3 : Vec F S3200x1 .f32) (x4 : Vec F S3200x1 .f32) (x5 : Vec F S3200x1 .f32) (x6 : Vec F S3200x1 .f32) (x7 : Vec F S3200x1 .f32) (r : Fin 3200) (k : Fin 64) :
    out x0 x1 x2 x3 x4 x5 x6 x7 (ix3 (0 : Fin 2) r k)
      = fac (x0 (ix2 r (⟨k.val, by omega⟩ : Fin 128))) (x2 (ix2 r 0)) (x4 (ix2 r 0)) (x6 (ix2 r 0)) := by
  unfold out
  refine (canon_low _ _ r k).trans ((pay_left _ r k).trans ?_)
  refine (both_apply _ _ _ _ _ _ _ _ _).trans ?_
  simp only [cat_left, wide_apply, ldC]
  exact congrArg (fac · _ _ _) (ldI x0 r k)

theorem out_high (x0 : Vec F S3200x128 .f32) (x1 : Vec F S3200x128 .f32) (x2 : Vec F S3200x1 .f32) (x3 : Vec F S3200x1 .f32) (x4 : Vec F S3200x1 .f32) (x5 : Vec F S3200x1 .f32) (x6 : Vec F S3200x1 .f32) (x7 : Vec F S3200x1 .f32) (r : Fin 3200) (k : Fin 64) :
    out x0 x1 x2 x3 x4 x5 x6 x7 (ix3 (1 : Fin 2) r k)
      = fac (x1 (ix2 r (⟨k.val, by omega⟩ : Fin 128))) (x3 (ix2 r 0)) (x5 (ix2 r 0)) (x7 (ix2 r 0)) := by
  unfold out
  refine (canon_high _ _ r k).trans ((pay_right _ r k).trans ?_)
  refine (both_apply _ _ _ _ _ _ _ _ _).trans ?_
  simp only [cat_right, wide_apply, ldC]
  exact congrArg (fac · _ _ _) (ldI x1 r k)

theorem idx_0 : ∀ t : Fin cfg3.N, win3_0.index t = ![(grid3.coords t 0).val, 0] :=
  (by decide +kernel : ∀ t : Fin grid3.N, _)
theorem idx_1 : ∀ t : Fin cfg3.N, win3_1.index t = ![(grid3.coords t 0).val + 128, 0] :=
  (by decide +kernel : ∀ t : Fin grid3.N, _)
theorem idx_2 : ∀ t : Fin cfg3.N, win3_2.index t = ![(grid3.coords t 0).val, 0] :=
  (by decide +kernel : ∀ t : Fin grid3.N, _)
theorem idx_3 : ∀ t : Fin cfg3.N, win3_3.index t = ![(grid3.coords t 0).val + 128, 0] :=
  (by decide +kernel : ∀ t : Fin grid3.N, _)
theorem idx_4 : ∀ t : Fin cfg3.N, win3_4.index t = ![(grid3.coords t 0).val, 0] :=
  (by decide +kernel : ∀ t : Fin grid3.N, _)
theorem idx_5 : ∀ t : Fin cfg3.N, win3_5.index t = ![(grid3.coords t 0).val + 128, 0] :=
  (by decide +kernel : ∀ t : Fin grid3.N, _)
theorem idx_6 : ∀ t : Fin cfg3.N, win3_6.index t = ![(grid3.coords t 0).val, 0] :=
  (by decide +kernel : ∀ t : Fin grid3.N, _)
theorem idx_7 : ∀ t : Fin cfg3.N, win3_7.index t = ![(grid3.coords t 0).val + 128, 0] :=
  (by decide +kernel : ∀ t : Fin grid3.N, _)
theorem idx_8 : ∀ t : Fin cfg3.N, win3_8.index t = ![0, (grid3.coords t 0).val, 0] :=
  (by decide +kernel : ∀ t : Fin grid3.N, _)

/-- A result's row among all the rows: the second half's after the first's. -/
def row (h : Fin 2) (r : Fin 409600) : Fin 819200 := ⟨409600 * h.val + r.val, by omega⟩

/-- The whole result, from the arrays the call finds. -/
def res (I : S819200x128.Idx → F .f32) (A L B : S819200x1.Idx → F .f32) : S2x409600x64.Idx → F .f32 := fun y =>
  fac (I (ix2 (row (y 0) (y 1)) (⟨(y 2).val, lt_trans (y 2).isLt (by decide)⟩ : Fin 128))) (A (ix2 (row (y 0) (y 1)) 0)) (L (ix2 (row (y 0) (y 1)) 0))
    (B (ix2 (row (y 0) (y 1)) 0))

theorem final (c : Dev nD) :
    (dat Vv c).arrAt 8 cfg3.N = res (Vv c (Proc.devRef .tc main_v5)) (Vv c (Proc.devRef .tc main_v6)) (Vv c (Proc.devRef .tc main_v7))
      (Vv c (Proc.devRef .tc main_v8)) := by
  refine (dat Vv c).arrAt_eq_of_covers 8 _ (by decide +kernel) fun t _ y => ?_
  obtain ⟨h, r, k, rfl⟩ : ∃ (h : Fin 2) (r : Fin 3200) (k : Fin 64), y = ix3 h r k := ⟨y 0, y 1, y 2, by funext a; fin_cases a <;> rfl⟩
  blk_simp
  rw [after_8]
  match h with
  | 0 =>
    refine (out_low _ _ _ _ _ _ _ _ r k).trans ?_
    unfold res
    congr 1
    · blk_ext [blk, idx_0 t, idx_8 t, row]
    · blk_ext [blk, idx_2 t, idx_8 t, row]
    · blk_ext [blk, idx_4 t, idx_8 t, row]
    · blk_ext [blk, idx_6 t, idx_8 t, row]
  | 1 =>
    refine (out_high _ _ _ _ _ _ _ _ r k).trans ?_
    unfold res
    congr 1
    · blk_ext [blk, idx_1 t, idx_8 t, row]
    · blk_ext [blk, idx_3 t, idx_8 t, row]
    · blk_ext [blk, idx_5 t, idx_8 t, row]
    · blk_ext [blk, idx_7 t, idx_8 t, row]

end C3

end Cert.Proof.Gather

end
-- ==== Proof.Run.lean ====
/-
  The whole program: its main on the TensorCore, host operation by host operation and call by call, the arrays each step
  leaves, and the run of the launch.
-/
module

public import proofs.«01_k».proof.Proof.Launch
public import proofs.«01_k».proof.Proof.Region0
public import proofs.«01_k».proof.Proof.Region1
public import proofs.«01_k».proof.Proof.Region3
public import Idealize.ShloMosaic.Lib.Pipeline.Frame

@[expose] public section

noncomputable section

namespace Cert.Proof.Gather

open Cert.KernelIdeal Cert.KernelIdeal.Gen
open Cert.Proof.Words

open Idealize.ShloMosaic
open Idealize.ShloMosaic.SparseCore (S V T)
open Idealize.ShloMosaic.SparseCore.Cfg (HIx Pay)
open Idealize.ShloMosaic.StableHlo (held wp_hlo_within after TRef)
open Idealize.ShloMosaic.Pipeline (ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

abbrev opC : HloOp τ sig (Elt F) := StableHlo.nullary main_c (constantI S_ 32 0#32)
abbrev opS : HloOp τ sig (Elt F) := TRef.unary (.of main_c) main_call0.v0 (sitofp .f32)
abbrev opP : HloOp τ sig (Elt F) :=
  TRef.binary (.of main_arg3 : TRef sig ⟨S100001x64, .f32⟩) main_call0.v0 main_call0.v1 (fun x v => pad S100352x128 ![0, 0] ![351, 64] ![0, 0] x v pads_S100001x64_S100352x128_03510_0640 h_S_)
abbrev op2 : HloOp τ sig (Elt F) := StableHlo.reshape main_arg1 main_v2 (rfl : (.f32 : EltTy) = .f32) shapeCasts_S4096x200_S6400x128
abbrev op4 : HloOp τ sig (Elt F) := StableHlo.reshape main_arg0 main_v4 (rfl : (.i32 : EltTy) = .i32) shapeCasts_S4096x200_S819200
abbrev op6 : HloOp τ sig (Elt F) := StableHlo.reshape main_v3_0 main_v6 (rfl : (.f32 : EltTy) = .f32) shapeCasts_S6400x128_S819200x1
abbrev op7 : HloOp τ sig (Elt F) := StableHlo.reshape main_v3_1 main_v7 (rfl : (.f32 : EltTy) = .f32) shapeCasts_S6400x128_S819200x1
abbrev op8 : HloOp τ sig (Elt F) := StableHlo.reshape main_arg2 main_v8 (rfl : (.f32 : EltTy) = .f32) shapeCasts_S4096x200_S819200x1
abbrev op10 : HloOp τ sig (Elt F) := StableHlo.reshape main_v9 main_v10 (rfl : (.f32 : EltTy) = .f32) shapeCasts_S2x409600x64_S4096x200x64

/-! ## The arrays step by step -/

abbrev dr (b : Ref sig .tc) : DevRef τ sig := Proc.devRef .tc b

/-- A valuation with one array's contents replaced. -/
def put (W : Vals F) (b : DevRef τ sig) (v : b.ty.Contents (Elt F)) : Vals F := Function.update W b v

omit [FloatOps F] in
theorem put_at (W : Vals F) (b : DevRef τ sig) (v) : put W b v b = v := Function.update_self ..
omit [FloatOps F] in
theorem put_off (W : Vals F) {b b' : DevRef τ sig} (v) (h : b' ≠ b) : put W b v b' = W b' := Function.update_of_ne h ..

def W0 (d : Dev nD) : Vals F := fun b => m (d, b)
/-- After the table is padded. -/
def W1 (d : Dev nD) : Vals F := opP.result (opS.result (opC.result (W0 m d)))
/-- After the inverse rates. -/
def W2 (d : Dev nD) : Vals F := put (W1 m d) (dr main_v1) (fun y : S100352x128.Idx => C0.inv (W1 m d (dr main_v0) y))
def W3 (d : Dev nD) : Vals F := op2.result (W2 m d)
/-- After the rows' shape parameters and log-gammas. -/
def W4 (d : Dev nD) : Vals F :=
  put (put (W3 m d) (dr main_v3_0) (fun y : S6400x128.Idx => C1.shp (W3 m d (dr main_v2) y))) (dr main_v3_1)
    (fun y : S6400x128.Idx => C1.lgm (C1.shp (W3 m d (dr main_v2) y)))
def W5 (d : Dev nD) : Vals F := op4.result (W4 m d)
/-- The index list and the table the gather is run at. -/
def fiOf (d : Dev nD) : Buf (Elt F) (iLoc d) := W5 m d (dr main_v4)
def ftOf (d : Dev nD) : Buf (Elt F) (tLoc d) := W5 m d (dr main_v1)
/-- After the gather. -/
def W6 (d : Dev nD) : Vals F := put (W5 m d) (dr main_v5) (Gv d (fiOf m d) (ftOf m d))
def W7 (d : Dev nD) : Vals F := op8.result (op7.result (op6.result (W6 m d)))
/-- After the factors. -/
def W8 (d : Dev nD) : Vals F :=
  put (W7 m d) (dr main_v9) (C3.res (W7 m d (dr main_v5)) (W7 m d (dr main_v6)) (W7 m d (dr main_v7)) (W7 m d (dr main_v8)))
def W9 (d : Dev nD) : Vals F := op10.result (W8 m d)

theorem dr_ne {b b' : Ref sig .tc} (h : b ≠ b') : dr b ≠ dr b' := fun e => h (Proc.devRef_injective _ e)

theorem W2_off (d : Dev nD) (b : Ref sig .tc) (h : b ≠ main_v1) : W2 m d (dr b) = W1 m d (dr b) := put_off _ _ (dr_ne h)
theorem W4_off (d : Dev nD) (b : Ref sig .tc) (h : b ≠ main_v3_0) (h' : b ≠ main_v3_1) : W4 m d (dr b) = W3 m d (dr b) :=
  (put_off _ _ (dr_ne h')).trans (put_off _ _ (dr_ne h))
theorem W6_off (d : Dev nD) (b : Ref sig .tc) (h : b ≠ main_v5) : W6 m d (dr b) = W5 m d (dr b) := put_off _ _ (dr_ne h)
theorem W8_off (d : Dev nD) (b : Ref sig .tc) (h : b ≠ main_v9) : W8 m d (dr b) = W7 m d (dr b) := put_off _ _ (dr_ne h)
theorem W2_v1 (d : Dev nD) : W2 m d (dr main_v1) = fun y : S100352x128.Idx => C0.inv (W1 m d (dr main_v0) y) := put_at _ _ _
theorem W4_v3_0 (d : Dev nD) : W4 m d (dr main_v3_0) = fun y : S6400x128.Idx => C1.shp (W3 m d (dr main_v2) y) :=
  (put_off _ _ (dr_ne (by decide))).trans (put_at _ _ _)
theorem W4_v3_1 (d : Dev nD) : W4 m d (dr main_v3_1) = fun y : S6400x128.Idx => C1.lgm (C1.shp (W3 m d (dr main_v2) y)) := put_at _ _ _
theorem W8_v9 (d : Dev nD) :
    W8 m d (dr main_v9) = C3.res (W7 m d (dr main_v5)) (W7 m d (dr main_v6)) (W7 m d (dr main_v7)) (W7 m d (dr main_v8)) := put_at _ _ _

/-! ## The pipelined calls at those arrays -/

/-- The proof data of the three calls. -/
def pd : Dats F := fun p c => match p with
  | 0 => C0.dat (W1 m) c
  | 1 => C1.dat (W3 m) c
  | 2 => C3.dat (W7 m) c

def R0 := region (F := F) 0 0 (pd m) launch0.to₀ (W1 m) (W2 m) (fun _ _ _ => rfl) (fun _ _ => rfl) (fun _ _ => rfl) (fun _ _ => rfl) (fun _ _ => rfl)
  (fun c w => match w with
    | ⟨0, _⟩ => ((C0.dat (W1 m) c).arrAt_in 0 rfl _).trans (W2_off m c main_v0 (by decide)).symm
    | ⟨1, _⟩ => (C0.final (W1 m) c).trans (W2_v1 m c).symm)
  (fun c b hb => W2_off m c b fun h => hb (Finset.mem_image.mpr ⟨(1 : Fin 2), Finset.mem_univ _, h.symm⟩))
  (C0.obligation (W1 m))

def R1 := region (F := F) 1 0 (pd m) launch1.to₀ (W3 m) (W4 m) (fun _ _ _ => rfl) (fun _ _ => rfl) (fun _ _ => rfl) (fun _ _ => rfl) (fun _ _ => rfl)
  (fun c w => match w with
    | ⟨0, _⟩ => ((C1.dat (W3 m) c).arrAt_in 0 rfl _).trans (W4_off m c main_v2 (by decide) (by decide)).symm
    | ⟨1, _⟩ => (C1.finalA (W3 m) c).trans (W4_v3_0 m c).symm
    | ⟨2, _⟩ => (C1.finalL (W3 m) c).trans (W4_v3_1 m c).symm)
  (fun c b hb => W4_off m c b (fun h => hb (Finset.mem_image.mpr ⟨(1 : Fin 3), Finset.mem_univ _, h.symm⟩))
    fun h => hb (Finset.mem_image.mpr ⟨(2 : Fin 3), Finset.mem_univ _, h.symm⟩))
  (C1.obligation (W3 m))

def R3 := region (F := F) 2 1 (pd m) launch₀3 (W7 m) (W8 m) (fun _ _ _ => rfl) (fun _ _ => rfl) (fun _ _ => rfl) (fun _ _ => rfl) (fun _ _ => rfl)
  (fun c w => match w with
    | ⟨0, _⟩ => ((C3.dat (W7 m) c).arrAt_in 0 rfl _).trans (W8_off m c main_v5 (by decide)).symm
    | ⟨1, _⟩ => ((C3.dat (W7 m) c).arrAt_in 1 rfl _).trans (W8_off m c main_v5 (by decide)).symm
    | ⟨2, _⟩ => ((C3.dat (W7 m) c).arrAt_in 2 rfl _).trans (W8_off m c main_v6 (by decide)).symm
    | ⟨3, _⟩ => ((C3.dat (W7 m) c).arrAt_in 3 rfl _).trans (W8_off m c main_v6 (by decide)).symm
    | ⟨4, _⟩ => ((C3.dat (W7 m) c).arrAt_in 4 rfl _).trans (W8_off m c main_v7 (by decide)).symm
    | ⟨5, _⟩ => ((C3.dat (W7 m) c).arrAt_in 5 rfl _).trans (W8_off m c main_v7 (by decide)).symm
    | ⟨6, _⟩ => ((C3.dat (W7 m) c).arrAt_in 6 rfl _).trans (W8_off m c main_v8 (by decide)).symm
    | ⟨7, _⟩ => ((C3.dat (W7 m) c).arrAt_in 7 rfl _).trans (W8_off m c main_v8 (by decide)).symm
    | ⟨8, _⟩ => (C3.final (W7 m) c).trans (W8_v9 m c).symm)
  (fun c b hb => W8_off m c b fun h => hb (Finset.mem_image.mpr ⟨(8 : Fin 9), Finset.mem_univ _, h.symm⟩))
  (C3.obligation (W7 m))

/-! ## One call of main -/

/-- A pipelined call as main makes it. -/
theorem wp_region {p : Fin 3} (R : Pipeline.RegionSeg (pcfgs (F := F)) adm (pd m) none defs₀ 𝒱₀ (K (F := F)).L (K (F := F)).lev p) (d : Dev nD)
    (Q : PUnit → sProp 𝕄) :
    iprop((iprop(boundary (T d) ∗ R.post d) -∗ Q ⟨⟩) ∗ boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Q := by
  refine BIBase.Entails.trans ?_ ((K (F := F)).wp_liftProg (D (F := F)) 𝒱 (T d) Set.univ none (.op (.customCall (Pipeline.entry p) ()) .ret) Q)
  refine BIBase.Entails.trans ?_ (Pipeline.RegionSeg.wp (pcfgs (F := F)) adm (pd m) none phinj EP defs₀ 𝒱₀ (K (F := F)).L (K (F := F)).lev R d none
    (fun u hu => nomatch hu) .ret Q)
  iintro ⟨Hk, Hr⟩
  isplitl [Hk]
  · iintro H
    rw [wp_ret]; imodintro
    iapply Hk; iexact H
  iexact Hr

/-- What main's state holds besides the debts, before call `n`. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((inferInstance : SparseCore.Cfg.Blocks 1 1).last q)) 1)))

theorem tcSt_eq (d : Dev nD) (n : ℕ) : ((K (F := F)).tcSt EH d n : sProp 𝕄) = iprop(dues d n ∗ tcRest d n) := rfl

/-! ## Main -/

theorem uc_mem (b : Ref sig .tc) (h : b.isScoped = false) : dr b ∈ ucRefs τ sig := by
  unfold ucRefs
  refine Finset.mem_filter.mpr ⟨Finset.mem_map.mpr ⟨b, Finset.mem_univ _, rfl⟩, ?_⟩
  show ¬ b.isScoped = true
  rw [h]; exact Bool.false_ne_true

theorem uc_one {a : Ref sig .tc} (h : a.isScoped = false) : ({dr a} : Finset (DevRef τ sig)) ⊆ ucRefs τ sig :=
  Finset.singleton_subset_iff.mpr (uc_mem a h)
theorem uc_two {a b : Ref sig .tc} (h : a.isScoped = false) (h' : b.isScoped = false) : ({dr a, dr b} : Finset (DevRef τ sig)) ⊆ ucRefs τ sig :=
  Finset.insert_subset_iff.mpr ⟨uc_mem a h, uc_one h'⟩
theorem uc_three {a b c : Ref sig .tc} (h : a.isScoped = false) (h' : b.isScoped = false) (h'' : c.isScoped = false) :
    ({dr a, dr b, dr c} : Finset (DevRef τ sig)) ⊆ ucRefs τ sig :=
  Finset.insert_subset_iff.mpr ⟨uc_mem a h, uc_two h' h''⟩

theorem hC : (opC (F := F)).bufs ⊆ ucRefs τ sig := uc_one (a := main_c) rfl
theorem hS : (opS (F := F)).bufs ⊆ ucRefs τ sig := uc_two (a := main_c) (b := main_call0_v0) rfl rfl
theorem hP : (opP (F := F)).bufs ⊆ ucRefs τ sig := uc_three (a := main_arg3) (b := main_call0_v0) (c := main_v0) rfl rfl rfl
theorem h2 : (op2 (F := F)).bufs ⊆ ucRefs τ sig := uc_two (a := main_arg1) (b := main_v2) rfl rfl
theorem h4 : (op4 (F := F)).bufs ⊆ ucRefs τ sig := uc_two (a := main_arg0) (b := main_v4) rfl rfl
theorem h6 : (op6 (F := F)).bufs ⊆ ucRefs τ sig := uc_two (a := main_v3_0) (b := main_v6) rfl rfl
theorem h7 : (op7 (F := F)).bufs ⊆ ucRefs τ sig := uc_two (a := main_v3_1) (b := main_v7) rfl rfl
theorem h8 : (op8 (F := F)).bufs ⊆ ucRefs τ sig := uc_two (a := main_arg2) (b := main_v8) rfl rfl
theorem h10 : (op10 (F := F)).bufs ⊆ ucRefs τ sig := uc_two (a := main_v9) (b := main_v10) rfl rfl

/-- The three arrays of the gather among all. -/
abbrev S3 : Finset (DevRef τ sig) := {dr main_v4, dr main_v1, dr main_v5}

theorem held_gather (d : Dev nD) (W : Vals F) : (held (T d) (ucRefs τ sig) W : sProp 𝕄)
    = iprop(((iLoc d ↦{fullShare} W (dr main_v4)) ∗ (tLoc d ↦{fullShare} W (dr main_v1)) ∗ oLoc d ↦{fullShare} W (dr main_v5))
        ∗ held (T d) (ucRefs τ sig \ S3) W) := by
  rw [StableHlo.held_sub_split (T d) (show S3 ⊆ ucRefs τ sig from uc_three rfl rfl rfl) W]
  congr 1
  unfold held S3
  rw [SparseCore.bigSep_insert' (by decide), SparseCore.bigSep_insert' (by decide), bigSep_singleton]

/-- The gather's exit: its arrays back among the others. -/
theorem held_W6 (d : Dev nD) : iprop(((iLoc d ↦{fullShare} fiOf m d) ∗ (tLoc d ↦{fullShare} ftOf m d) ∗ oLoc d ↦{fullShare} Gv d (fiOf m d) (ftOf m d))
      ∗ held (T d) (ucRefs τ sig \ S3) (W5 m d)) = (held (T d) (ucRefs τ sig) (W6 m d) : sProp 𝕄) := by
  rw [held_gather d (W6 m d), W6_off m d main_v4 (by decide), W6_off m d main_v1 (by decide),
    show W6 m d (dr main_v5) = Gv d (fiOf m d) (ftOf m d) from put_at _ _ _,
    StableHlo.held_congr (T d) (V := W6 m d) (V' := W5 m d) fun b hb => put_off _ _ fun h =>
      (Finset.mem_sdiff.mp hb).2 (h ▸ Finset.mem_insert_of_mem (Finset.mem_insert_of_mem (Finset.mem_singleton_self _)))]
  rfl

/-- What main leaves the claims: every array at its last contents. -/
abbrev FIN (d : Dev nD) : sProp 𝕄 := held (T d) (ucRefs τ sig) (W9 m d)

theorem pre_eq0 (d : Dev nD) : (R0 m).pre d = iprop(held (T d) (ucRefs τ sig) (W1 m d) ∗ dues d 0) := by
  rw [← unscopedBufs_held]; rfl
theorem post_eq0 (d : Dev nD) : (R0 m).post d = iprop(held (T d) (ucRefs τ sig) (W2 m d) ∗ dues d 0) := by
  rw [← unscopedBufs_held]; rfl
theorem pre_eq1 (d : Dev nD) : (R1 m).pre d = iprop(held (T d) (ucRefs τ sig) (W3 m d) ∗ dues d 0) := by
  rw [← unscopedBufs_held]; rfl
theorem post_eq1 (d : Dev nD) : (R1 m).post d = iprop(held (T d) (ucRefs τ sig) (W4 m d) ∗ dues d 0) := by
  rw [← unscopedBufs_held]; rfl
theorem pre_eq3 (d : Dev nD) : (R3 m).pre d = iprop(held (T d) (ucRefs τ sig) (W7 m d) ∗ dues d 1) := by
  rw [← unscopedBufs_held]; rfl
theorem post_eq3 (d : Dev nD) : (R3 m).post d = iprop(held (T d) (ucRefs τ sig) (W8 m d) ∗ dues d 1) := by
  rw [← unscopedBufs_held]; rfl

theorem dealt_eq (d : Dev nD) : Dealt (F := F) d
    = iprop((Pipeline.cellsGhost (Pipeline.pin (pcfgs (F := F)) adm) EP 0 d ∗ Pipeline.cellsGhost (Pipeline.pin (pcfgs (F := F)) adm) EP 1 d
        ∗ Pipeline.cellsGhost (Pipeline.pin (pcfgs (F := F)) adm) EP 2 d)
      ∗ Pipeline.toksInit (Pipeline.pin (pcfgs (F := F)) adm) EP 0 d ∗ Pipeline.toksInit (Pipeline.pin (pcfgs (F := F)) adm) EP 1 d
        ∗ Pipeline.toksInit (Pipeline.pin (pcfgs (F := F)) adm) EP 2 d) := by
  have h : ∀ Φ : Fin 3 → sProp 𝕄, bigSep Finset.univ Φ = iprop(Φ 0 ∗ Φ 1 ∗ Φ 2) := fun Φ => bigSep_W1 Φ
  unfold Dealt
  rw [h, h]

set_option maxRecDepth 8192 in
theorem hmain (κ : GSem nD τ sig → ℕ) (d : Dev nD) :
    iprop((K (F := F)).ctx EH (P (fiOf m) (ftOf m)) κ ∗ (K (F := F)).tcSt EH d 0 ∗ (K (F := F)).tcRes m ρ d ∗ Dealt (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (ucRefs τ sig) (W0 m d) from unscopedBufs_held d (W0 m d),
    tcSt_eq, dealt_eq]
  simp only [main, fn_pad.body, wp_bind, wp_pure]
  iintro ⟨#Hctx, ⟨HO, Hst⟩, ⟨Hb, Hh, Hts, -⟩, ⟨Hc0, Hc1, Hc2⟩, Hk0, Hk1, Hk2⟩
  ihave Hlev' := (SparseCore.Cfg.ctx_levAts (K := K (F := F)) κ) $$ Hctx
  icases Hlev' with #Hlev
  iapply (wp_hlo_within 𝒱 (SparseCore.T d) none Set.univ (op := opC) (S := ucRefs τ sig) hC (V := W0 m d)) $$ [Hb Hh]
  · isplitl [Hb] <;> iassumption
  iintro ⟨Hb, Hh⟩
  rw [wp_ret]; imodintro
  iapply (wp_hlo_within 𝒱 (SparseCore.T d) none Set.univ (op := opS) (S := ucRefs τ sig) hS (V := opC.result (W0 m d))) $$ [Hb Hh]
  · isplitl [Hb] <;> iassumption
  iintro ⟨Hb, Hh⟩
  rw [wp_ret]; imodintro
  iapply (wp_hlo_within 𝒱 (SparseCore.T d) none Set.univ (op := opP) (S := ucRefs τ sig) hP (V := opS.result (opC.result (W0 m d)))) $$ [Hb Hh]
  · isplitl [Hb] <;> iassumption
  iintro ⟨Hb, Hh⟩
  rw [wp_ret]; imodintro
  imodintro
  iapply (wp_region m (R0 m) d)
  rw [pre_eq0, post_eq0]
  isplitr [Hb Hh HO Hc0 Hk0]
  swap
  · isplitl [Hb]; · iexact Hb
    isplitl [Hh HO]
    · isplitl [Hh]; · iexact Hh
      iexact HO
    isplitr; · iexact Hlev
    isplitl [Hc0] <;> iassumption
  iintro ⟨Hb, Hh, HO⟩
  iapply (wp_hlo_within 𝒱 (SparseCore.T d) none Set.univ (op := op2) (S := ucRefs τ sig) h2 (V := W2 m d)) $$ [Hb Hh]
  · isplitl [Hb] <;> iassumption
  iintro ⟨Hb, Hh⟩
  rw [wp_ret]; imodintro
  iapply (wp_region m (R1 m) d)
  rw [pre_eq1, post_eq1]
  isplitr [Hb Hh HO Hc1 Hk1]
  swap
  · isplitl [Hb]; · iexact Hb
    isplitl [Hh HO]
    · isplitl [Hh]; · iexact Hh
      iexact HO
    isplitr; · iexact Hlev
    isplitl [Hc1] <;> iassumption
  iintro ⟨Hb, Hh, HO⟩
  iapply (wp_hlo_within 𝒱 (SparseCore.T d) none Set.univ (op := op4) (S := ucRefs τ sig) h4 (V := W4 m d)) $$ [Hb Hh]
  · isplitl [Hb] <;> iassumption
  iintro ⟨Hb, Hh⟩
  rw [wp_ret]; imodintro
  ihave Hg := (Entails.of_eq (held_gather (F := F) d (op4.result (W4 m d)))) $$ Hh
  icases Hg with ⟨⟨Hi, Ht, Ho⟩, Hh⟩
  iapply ((K (F := F)).wp_run (D (F := F)) 𝒱 (EH := EH) (P := P (fiOf m) (ftOf m)) κ d 0)
  isplitr; · iexact Hctx
  isplitl [HO Hst]
  · rw [tcSt_eq]; isplitl [HO]; · iexact HO
    iexact Hst
  isplitl [Hi Ht Ho]
  · iapply (st_intro (fiOf m) (ftOf m) d)
    isplitl [Hi]; · iexact Hi
    isplitl [Ht]; · iexact Ht
    iexists _; iexact Ho
  iintro ⟨Hst, Hdn⟩
  ihave Hdn' := (dn_elim (fiOf m) (ftOf m) d) $$ Hdn
  ihave Hh := (Entails.of_eq (held_W6 (F := F) m d)) $$ [Hdn' Hh]
  · isplitl [Hdn']; · iexact Hdn'
    iexact Hh
  ihave Hst' := (Entails.of_eq (tcSt_eq (F := F) d ((0 : Fin 1).val + 1))) $$ Hst
  icases Hst' with ⟨HO, Hst⟩
  iapply (wp_hlo_within 𝒱 (SparseCore.T d) none Set.univ (op := op6) (S := ucRefs τ sig) h6 (V := W6 m d)) $$ [Hb Hh]
  · isplitl [Hb] <;> iassumption
  iintro ⟨Hb, Hh⟩
  rw [wp_ret]; imodintro
  iapply (wp_hlo_within 𝒱 (SparseCore.T d) none Set.univ (op := op7) (S := ucRefs τ sig) h7 (V := op6.result (W6 m d))) $$ [Hb Hh]
  · isplitl [Hb] <;> iassumption
  iintro ⟨Hb, Hh⟩
  rw [wp_ret]; imodintro
  iapply (wp_hlo_within 𝒱 (SparseCore.T d) none Set.univ (op := op8) (S := ucRefs τ sig) h8 (V := op7.result (op6.result (W6 m d)))) $$ [Hb Hh]
  · isplitl [Hb] <;> iassumption
  iintro ⟨Hb, Hh⟩
  rw [wp_ret]; imodintro
  iapply (wp_region m (R3 m) d)
  rw [pre_eq3, post_eq3]
  isplitr [Hb Hh HO Hc2 Hk2]
  swap
  · isplitl [Hb]; · iexact Hb
    isplitl [Hh HO]
    · isplitl [Hh]; · iexact Hh
      iexact HO
    isplitr; · iexact Hlev
    isplitl [Hc2] <;> iassumption
  iintro ⟨Hb, Hh, HO⟩
  iapply (wp_hlo_within 𝒱 (SparseCore.T d) none Set.univ (op := op10) (S := ucRefs τ sig) h10 (V := W8 m d)) $$ [Hb Hh]
  · isplitl [Hb] <;> iassumption
  iintro ⟨Hb, Hh⟩
  rw [wp_ret]; imodintro
  imodintro
  rw [tcSt_eq]
  isplitl [HO Hst]
  · isplitl [HO]; · iexact HO
    iexact Hst
  isplitl [Hh]; · iexact Hh
  isplitl [Hb] <;> iassumption

end Cert.Proof.Gather

end
-- ==== Proof.Values.lean ====
/-
  The run of the launch, and the result array an element at a time.
-/
module

public import proofs.«01_k».proof.Proof.Run
public import Idealize.ShloMosaic.Lib.KernelVsHost

@[expose] public section

noncomputable section

namespace Cert.Proof.Gather

open Cert.KernelIdeal Cert.KernelIdeal.Gen
open Cert.Proof.Words

open Idealize.ShloMosaic
open Idealize.ShloMosaic.SparseCore (S V)
open Idealize.ShloMosaic.SparseCore.Cfg (HIx Pay)
open Idealize.ShloMosaic.StableHlo (held after TRef)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The run -/

/-- The final memory's unscoped arrays on a device. -/
abbrev fq (d : Dev nD) (s' : Phys nD τ sig (Elt F)) : Prop :=
  ∀ b : Ref sig .tc, b.isScoped = false → s'.mem.mem ((SparseCore.T d).loc b) = W9 m d (dr b)

theorem hfin (d : Dev nD) (s' : Phys nD τ sig (Elt F)) : iprop(FIN m d ∗ SI s') ⊢ (⌜fq m d s'⌝ : sProp 𝕄) := by
  have one : ∀ b : Ref sig .tc, b.isScoped = false →
      iprop(FIN m d ∗ SI s') ⊢ (⌜s'.mem.mem ((SparseCore.T d).loc b) = W9 m d (dr b)⌝ : sProp 𝕄) := fun b hb => by
    iintro ⟨Ha, HSI⟩
    ihave Hb := (show FIN m d ⊢ ((SparseCore.T d).loc b ↦{fullShare} W9 m d (dr b) : sProp 𝕄) from
      bigSep_elim (uc_mem b hb)) $$ Ha
    ihave H := (SI_pointsTo_agree (st := s') (ℓ := (SparseCore.T d).loc b) (I := Finset.univ) (q := fullShare) (f := W9 m d (dr b))) $$ [HSI Hb]
    · isplitl [HSI] <;> iassumption
    icases H with %h3
    ipureintro
    exact funext fun i => h3 i (Finset.mem_univ i)
  refine BIBase.Entails.trans ?_ (pure_forall (φ := fun b : Ref sig .tc => b.isScoped = false → s'.mem.mem ((SparseCore.T d).loc b) = W9 m d (dr b))).2
  refine forall_intro fun b => ?_
  by_cases hb : b.isScoped = false
  · exact (one b hb).trans (BI.pure_mono fun h _ => h)
  · exact BI.pure_intro fun h => absurd h hb

def QC : PUnit × MemSt nD τ sig (Elt F) → Prop := fun r =>
  (∀ (c : Dev nD) (b : Ref sig .tc), b.isScoped = false → r.2.mem ((SparseCore.T c).loc b) = W9 m c (dr b)) ∧ r.2.sem = fun _ => 0

theorem run_main [∀ e, Nonempty (Elt F e)] (hrows : ∀ d, InRows (fiOf m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (fiOf m) (ftOf m)) (A := ∅) facts v₀
    (fun q hq => match q with | 0 => nomatch hq)
    (fun q _ => match q with | 0 => tileObl (fiOf m) (ftOf m) hrows)
    (fun q _ => match q with | 0 => SparseCore.Cfg.VecSplit.of_plain (vecSplit (fiOf m) (ftOf m)))
    m ρ main (fun d => Dealt (F := F) d) (FIN m) (u₀ (F := F)) (sep_elim_left.trans (hu₀ (fiOf m) (ftOf m)))
    (hmain m ρ) (fq m) (hfin m) (QC m) (fun _ h hz => ⟨h, hz⟩)

/-! ## The arguments -/

theorem off {op : HloOp τ sig (Elt F)} {y b : Ref sig .tc} (hw : op.writes = {dr y}) (h : b ≠ y) (V : Vals F) :
    op.result V (dr b) = V (dr b) := StableHlo.result_of_writes_ne op V y b hw h

/-- An array that main writes nowhere. -/
theorem W9_keep (d : Dev nD) (b : Ref sig .tc)
    (h : b ∉ [main_c, main_call0_v0, main_v0, main_v1, main_v2, main_v3_0, main_v3_1, main_v4, main_v5, main_v6, main_v7, main_v8, main_v9, main_v10]) :
    W9 m d (dr b) = W0 m d (dr b) := by
  simp only [List.mem_cons, List.not_mem_nil, or_false, not_or] at h
  obtain ⟨h0, h1, h2, h3, h4, h5, h6, h7, h8, h9, h10, h11, h12, h13⟩ := h
  unfold W9
  rw [off (y := main_v10) rfl h13, W8_off m d b h12]
  unfold W7
  rw [off (y := main_v8) rfl h11, off (y := main_v7) rfl h10, off (y := main_v6) rfl h9, W6_off m d b h8]
  unfold W5
  rw [off (y := main_v4) rfl h7, W4_off m d b h5 h6]
  unfold W3
  rw [off (y := main_v2) rfl h4, W2_off m d b h3]
  unfold W1
  rw [off (y := main_v0) rfl h2, off (y := main_call0_v0) rfl h1, off (y := main_c) rfl h0]

/-! ## The arrays between the calls -/

abbrev A0 (d : Dev nD) : S4096x200.Idx → BitVec 32 := m ((SparseCore.T d).loc main_arg0)
abbrev A1 (d : Dev nD) : S4096x200.Idx → F .f32 := m ((SparseCore.T d).loc main_arg1)
abbrev A2 (d : Dev nD) : S4096x200.Idx → F .f32 := m ((SparseCore.T d).loc main_arg2)
abbrev A3 (d : Dev nD) : S100001x64.Idx → F .f32 := m ((SparseCore.T d).loc main_arg3)

theorem W1_keep (d : Dev nD) (b : Ref sig .tc) (h : b ∉ [main_c, main_call0_v0, main_v0]) : W1 m d (dr b) = W0 m d (dr b) := by
  simp only [List.mem_cons, List.not_mem_nil, or_false, not_or] at h
  unfold W1
  rw [off (y := main_v0) rfl h.2.2, off (y := main_call0_v0) rfl h.2.1, off (y := main_c) rfl h.1]

theorem W2_keep (d : Dev nD) (b : Ref sig .tc) (h : b ∉ [main_c, main_call0_v0, main_v0]) (h' : b ≠ main_v1) : W2 m d (dr b) = W0 m d (dr b) :=
  (W2_off m d b h').trans (W1_keep m d b h)

theorem W3_v2 (d : Dev nD) : W3 m d (dr main_v2) = shapeCast S6400x128 (A1 m d) shapeCasts_S4096x200_S6400x128 := by
  unfold W3
  rw [StableHlo.reshape_result', W2_keep m d main_arg1 (by decide) (by decide)]
  rfl

theorem W4_keep (d : Dev nD) (b : Ref sig .tc) (h : b ∉ [main_c, main_call0_v0, main_v0]) (h' : b ∉ [main_v1, main_v2, main_v3_0, main_v3_1]) :
    W4 m d (dr b) = W0 m d (dr b) := by
  simp only [List.mem_cons, List.not_mem_nil, or_false, not_or] at h'
  rw [W4_off m d b h'.2.2.1 h'.2.2.2]
  unfold W3
  rw [off (y := main_v2) rfl h'.2.1]
  exact W2_keep m d b h h'.1

theorem fi_eq (d : Dev nD) : fiOf m d = shapeCast S819200 (A0 m d) shapeCasts_S4096x200_S819200 := by
  unfold fiOf W5
  rw [StableHlo.reshape_result', W4_keep m d main_arg0 (by decide) (by decide)]
  rfl

theorem ft_eq (d : Dev nD) : ftOf m d = fun y : S100352x128.Idx => C0.inv (W1 m d (dr main_v0) y) := by
  unfold ftOf W5
  rw [off (y := main_v4) rfl (by decide), W4_off m d main_v1 (by decide) (by decide)]
  unfold W3
  rw [off (y := main_v2) rfl (by decide), W2_v1]

theorem W7_off (d : Dev nD) (b : Ref sig .tc) (h : b ∉ [main_v6, main_v7, main_v8]) : W7 m d (dr b) = W6 m d (dr b) := by
  simp only [List.mem_cons, List.not_mem_nil, or_false, not_or] at h
  unfold W7
  rw [off (y := main_v8) rfl h.2.2, off (y := main_v7) rfl h.2.1, off (y := main_v6) rfl h.1]

theorem W7_v5 (d : Dev nD) : W7 m d (dr main_v5) = G (fiOf m d) (ftOf m d) := by
  rw [W7_off m d main_v5 (by decide)]
  exact put_at _ _ _

theorem W5_off (d : Dev nD) (b : Ref sig .tc) (h : b ≠ main_v4) : W5 m d (dr b) = W4 m d (dr b) := by
  unfold W5
  rw [off (y := main_v4) rfl h]

theorem W7_v6 (d : Dev nD) : W7 m d (dr main_v6)
    = shapeCast S819200x1 (fun y : S6400x128.Idx => C1.shp (W3 m d (dr main_v2) y)) shapeCasts_S6400x128_S819200x1 := by
  unfold W7
  rw [off (y := main_v8) rfl (by decide), off (y := main_v7) rfl (by decide), StableHlo.reshape_result',
    W6_off m d main_v3_0 (by decide), W5_off m d main_v3_0 (by decide), W4_v3_0]
  rfl

theorem W7_v7 (d : Dev nD) : W7 m d (dr main_v7)
    = shapeCast S819200x1 (fun y : S6400x128.Idx => C1.lgm (C1.shp (W3 m d (dr main_v2) y))) shapeCasts_S6400x128_S819200x1 := by
  unfold W7
  rw [off (y := main_v8) rfl (by decide), StableHlo.reshape_result', off (y := main_v6) rfl (by decide),
    W6_off m d main_v3_1 (by decide), W5_off m d main_v3_1 (by decide), W4_v3_1]
  rfl

theorem W7_v8 (d : Dev nD) : W7 m d (dr main_v8) = shapeCast S819200x1 (A2 m d) shapeCasts_S4096x200_S819200x1 := by
  unfold W7
  rw [StableHlo.reshape_result', off (y := main_v7) rfl (by decide), off (y := main_v6) rfl (by decide),
    W6_off m d main_arg2 (by decide), W5_off m d main_arg2 (by decide), W4_keep m d main_arg2 (by decide) (by decide)]
  rfl

/-! ## The result, an element at a time -/

/-- The row of the table an index word names. -/
def rowT (v : BitVec 32) : Fin 100001 := ⟨v.toNat % 100001, Nat.mod_lt _ (by decide)⟩

/-- Result `y`, from the arguments. -/
def val (P : S4096x200.Idx → BitVec 32) (t b : S4096x200.Idx → F .f32) (T : S100001x64.Idx → F .f32) : S4096x200x64.Idx → F .f32 := fun y =>
  C3.fac (C0.inv (T (ix2 (rowT (P (ix2 (y 0) (y 1)))) (y 2)))) (C1.shp (t (ix2 (y 0) (y 1)))) (C1.lgm (C1.shp (t (ix2 (y 0) (y 1))))) (b (ix2 (y 0) (y 1)))

/-- The table as the inverse rates' call finds it, at an entry of the argument. -/
theorem padded (d : Dev nD) (r : Fin 100001) (k : Fin 64) (j : S100352x128.Idx) (h0 : (j 0).val = r.val) (h1 : (j 1).val = k.val) :
    W1 m d (dr main_v0) j = A3 m d (ix2 r k) := by
  have hv : W1 m d (dr main_v0) = pad S100352x128 ![0, 0] ![351, 64] ![0, 0] (A3 m d) (W1 m d (dr main_call0_v0)) pads_S100001x64_S100352x128_03510_0640 h_S_ := by
    rw [show W1 m d (dr main_call0_v0) = opS.result (opC.result (W0 m d)) (dr main_call0_v0) from off (y := main_v0) rfl (by decide) _]
    unfold W1
    refine (StableHlo.binary_result' ..).trans ?_
    rw [off (y := main_call0_v0) rfl (by decide), off (y := main_c) rfl (by decide)]
    rfl
  rw [hv]
  refine pad_apply_of_inside _ _ _ _ _ _ _ j (ix2 r k) fun a => ?_
  match a with
  | 0 => simpa using h0
  | 1 => simpa using h1

theorem out_at (d : Dev nD) (hrow : ∀ x, (A0 m d x).toNat ≤ 100000) :
    W9 m d (dr main_v10) = val (A0 m d) (A1 m d) (A2 m d) (A3 m d) := by
  have h10 : W9 m d (dr main_v10) = shapeCast S4096x200x64 (W8 m d (dr main_v9)) shapeCasts_S2x409600x64_S4096x200x64 := by
    unfold W9
    rw [StableHlo.reshape_result']
    rfl
  funext (y : S4096x200x64.Idx)
  have hb : (y 0).val < 4096 := (y 0).isLt
  have hs : (y 1).val < 200 := (y 1).isLt
  have hk : (y 2).val < 64 := (y 2).isLt
  obtain ⟨n, hn⟩ : ∃ n : ℕ, n = (y 0).val * 200 + (y 1).val := ⟨_, rfl⟩
  have hlt : n < 819200 := by omega
  have hq : n / 409600 < 2 := by omega
  have hr : n % 409600 < 409600 := Nat.mod_lt _ (by decide)
  have hrow' : C3.row ⟨n / 409600, hq⟩ ⟨n % 409600, hr⟩ = ⟨n, hlt⟩ := Fin.ext (by show 409600 * (n / 409600) + n % 409600 = n; omega)
  have cast1 : ∀ {α : Type} (x : S4096x200.Idx → α), shapeCast S819200 x shapeCasts_S4096x200_S819200 (ix1 ⟨n, hlt⟩) = x (ix2 (y 0) (y 1)) := fun x =>
    shapeCast_apply x _ _ _ (by rw [Shape.rowMajor_val_one, Shape.rowMajor_val_two]; exact hn.symm)
  have cast2 : ∀ {α : Type} (x : S4096x200.Idx → α), shapeCast S819200x1 x shapeCasts_S4096x200_S819200x1 (ix2 ⟨n, hlt⟩ 0) = x (ix2 (y 0) (y 1)) := fun x =>
    shapeCast_apply x _ _ _ (by rw [Shape.rowMajor_val_two, Shape.rowMajor_val_two]; show (y 0).val * 200 + (y 1).val = n * 1 + 0; omega)
  have cast3 : ∀ {α : Type} (x : S6400x128.Idx → α), shapeCast S819200x1 x shapeCasts_S6400x128_S819200x1 (ix2 ⟨n, hlt⟩ 0)
      = x (ix2 ⟨n / 128, by omega⟩ ⟨n % 128, Nat.mod_lt _ (by decide)⟩) := fun x =>
    shapeCast_apply x _ _ _ (by rw [Shape.rowMajor_val_two, Shape.rowMajor_val_two]; show n / 128 * 128 + n % 128 = n * 1 + 0; omega)
  have cast4 : ∀ {α : Type} (x : S4096x200.Idx → α), shapeCast S6400x128 x shapeCasts_S4096x200_S6400x128 (ix2 ⟨n / 128, by omega⟩ ⟨n % 128, Nat.mod_lt _ (by decide)⟩)
      = x (ix2 (y 0) (y 1)) := fun x =>
    shapeCast_apply x _ _ _ (by rw [Shape.rowMajor_val_two, Shape.rowMajor_val_two]; show (y 0).val * 200 + (y 1).val = n / 128 * 128 + n % 128; omega)
  have hP := hrow (ix2 (y 0) (y 1))
  refine (congrFun h10 y).trans ((shapeCast_apply (s := S2x409600x64) (t := S4096x200x64) (W8 m d (dr main_v9)) _ y
      (ix3 ⟨n / 409600, hq⟩ ⟨n % 409600, hr⟩ (y 2)) (by
    rw [Shape.rowMajor_val_three, Shape.rowMajor_val_three]
    show (n / 409600 * 409600 + n % 409600) * 64 + (y 2).val = ((y 0).val * 200 + (y 1).val) * 64 + (y 2).val
    omega)).trans ?_)
  rw [W8_v9, W7_v5, W7_v6, W7_v7, W7_v8, W3_v2]
  show C3.fac (G (fiOf m d) (ftOf m d) (ix2 (C3.row ⟨n / 409600, hq⟩ ⟨n % 409600, hr⟩) ⟨(y 2).val, _⟩)) (shapeCast S819200x1 _ _ (ix2 (C3.row ⟨n / 409600, hq⟩ ⟨n % 409600, hr⟩) 0))
    (shapeCast S819200x1 _ _ (ix2 (C3.row ⟨n / 409600, hq⟩ ⟨n % 409600, hr⟩) 0)) (shapeCast S819200x1 _ _ (ix2 (C3.row ⟨n / 409600, hq⟩ ⟨n % 409600, hr⟩) 0)) = _
  rw [hrow', cast2, cast3, cast3, cast4]
  unfold val
  congr 1
  unfold G
  rw [ft_eq]
  refine congrArg C0.inv (padded m d _ _ _ ?_ rfl)
  show (rowOfWord (fiOf m d (ix1 ⟨n, hlt⟩))).val = (rowT _).val
  rw [fi_eq, cast1]
  unfold rowOfWord rowT
  dsimp only
  rw [Nat.mod_eq_of_lt (by omega), Nat.mod_eq_of_lt (by omega)]

theorem inRows_of (hrow : ∀ d x, (A0 m d x).toNat ≤ 100000) (d : Dev nD) : InRows (fiOf m d) := fun x => by
  rw [fi_eq]
  exact (hrow d _).trans_lt (by norm_num)

/-! ## What the preconditions say of an index -/

theorem word_in_rows (v : BitVec 32) (h : IntOp.andi (IntOp.cmpi .sge v 0#32) (IntOp.cmpi .sle v 100000#32) = 1#1) : v.toNat ≤ 100000 := by
  have hb : ∀ p q : Bool, IntOp.andi (BitVec.ofBool p) (BitVec.ofBool q) = 1#1 → p = true ∧ q = true := by decide
  obtain ⟨h0, h1⟩ := hb _ _ h
  simp only [BitVec.sle_eq_decide, decide_eq_true_eq, BitVec.toInt_eq_toNat_cond, BitVec.toNat_ofNat, Nat.reducePow, Nat.reduceMod] at h0 h1
  have := v.isLt
  omega

end Cert.Proof.Gather

end
-- ==== Proof.RefRun.lean ====
/-
  The reference's run: its host operations as the straight line they are, cut into stretches, and what each stretch leaves.
-/
module

public import proofs.«01_k».proof.Proof.Gen.ReferenceIdeal
public import Idealize.ShloMosaic.Lib.StableHlo
public import Idealize.ShloMosaic.Lib.StableHlo.RunRead
public import Idealize.ShloMosaic.Lib.Pipeline.Frame

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- Arrays: a scalar, one per position, the same as a column, one per position and feature. -/
abbrev Sc (F : FTy → Type) := (⟨S_, .f32⟩ : BufTy).Contents (Elt F)
abbrev Mat (F : FTy → Type) := (⟨S4096x200, .f32⟩ : BufTy).Contents (Elt F)
abbrev Col (F : FTy → Type) := (⟨S4096x200x1, .f32⟩ : BufTy).Contents (Elt F)
abbrev Big (F : FTy → Type) := (⟨S4096x200x64, .f32⟩ : BufTy).Contents (Elt F)

/-! ## The operations -/

/-- The logarithm of the time and the behaviour, as columns. -/
abbrev opsA : List (HloOp τ sig (Elt F)) :=
  [ nullary main_cst (constant S_ .f32 0x3089705F#32),
    unary main_cst main_v0 (broadcastInDim S4096x200 ![] bcast_S_S4096x200 : Sc F → Mat F),
    binary main_arg1 main_v0 main_v1 (addf : Mat F → Mat F → Mat F),
    unary main_v1 main_v2 (Host.log : Mat F → Mat F),
    unary main_v2 main_v3 (broadcastInDim S4096x200x1 ![0, 1] bcast_S4096x200_S4096x200x1_0_1 : Mat F → Col F),
    unary main_arg2 main_v4 (broadcastInDim S4096x200x1 ![0, 1] bcast_S4096x200_S4096x200x1_0_1 : Mat F → Col F) ]

/-- The rows of the table. -/
abbrev opsT : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100001#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 100000#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg3) main_call0.v5 main_call0.v13 (fun x i => Host.gather gather_S100001x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select ]

/-- The softplus. -/
abbrev opsS : List (HloOp τ sig (Elt F)) :=
  [ TRef.nullary main_call1.cst (constant S_ .f32 0x00000000#32),
    TRef.unary main_call1.cst main_call1.v0 (broadcastInDim S4096x200x64 ![] bcast_S_S4096x200x64),
    TRef.binary (.of main_v5) main_call1.v0 main_call1.v1 maximumf,
    TRef.unary main_call1.cst main_call1.v2 (broadcastInDim S4096x200x64 ![] bcast_S_S4096x200x64),
    TRef.binary (.of main_v5) main_call1.v2 main_call1.v3 subf,
    TRef.binary main_call1.v3 main_call1.v3 main_call1.v4 (cmpf .une),
    TRef.unary main_call1.cst main_call1.v5 (broadcastInDim S4096x200x64 ![] bcast_S_S4096x200x64),
    TRef.binary (.of main_v5) main_call1.v5 main_call1.v6 addf,
    TRef.unary main_call1.v3 main_call1.v7 Host.absf,
    TRef.unary main_call1.v7 main_call1.v8 Host.negf,
    TRef.unary main_call1.v8 main_call1.v9 Host.exp,
    TRef.unary main_call1.v9 main_call1.v10 Host.log1p,
    TRef.binary main_call1.v1 main_call1.v10 main_call1.v11 addf,
    TRef.ternary main_call1.v4 main_call1.v6 main_call1.v11 main_call1.v12 select ]

/-- The shape parameter, the argument, and the shape parameter clamped. -/
abbrev opsX : List (HloOp τ sig (Elt F)) :=
  [ nullary main_cst_0 (constant S_ .f32 0x3F800000#32),
    unary main_cst_0 main_v7 (broadcastInDim S4096x200x1 ![] bcast_S_S4096x200x1 : Sc F → Col F),
    binary main_v3 main_v7 main_v8 (mulf : Col F → Col F → Col F),
    nullary main_cst_1 (constant S_ .f32 0x3F000000#32),
    unary main_cst_1 main_v9 (broadcastInDim S4096x200x1 ![] bcast_S_S4096x200x1 : Sc F → Col F),
    binary main_v9 main_v8 main_v10 (mulf : Col F → Col F → Col F),
    binary main_v10 main_v8 main_v11 (mulf : Col F → Col F → Col F),
    unary main_v4 main_v12 (broadcastInDim S4096x200x64 ![0, 1, 2] bcast_S4096x200x1_S4096x200x64_0_1_2 : Col F → Big F),
    binary main_v12 main_v6 main_v13 (Host.divf : Big F → Big F → Big F),
    nullary main_cst_2 (constant S_ .f32 0x3089705F#32),
    unary main_cst_2 main_v14 (broadcastInDim S4096x200x64 ![] bcast_S_S4096x200x64 : Sc F → Big F),
    binary main_v13 main_v14 main_v15 (addf : Big F → Big F → Big F),
    nullary main_cst_3 (constant S_ .f32 0x41C00000#32),
    unary main_cst_3 main_v16 (broadcastInDim S4096x200x1 ![] bcast_S_S4096x200x1 : Sc F → Col F),
    binary main_v11 main_v16 main_v17 (minimumf : Col F → Col F → Col F) ]

/-- The series to its fifth term. -/
abbrev opsB : List (HloOp τ sig (Elt F)) :=
  [ nullary main_cst_4 (constant S_ .f32 0x3F800000#32),
    unary main_cst_4 main_v18 (broadcastInDim S4096x200x64 ![] bcast_S_S4096x200x64 : Sc F → Big F),
    binary main_v18 main_v15 main_v19 (mulf : Big F → Big F → Big F),
    nullary main_cst_5 (constant S_ .f32 0x3F800000#32),
    unary main_cst_5 main_v20 (broadcastInDim S4096x200x1 ![] bcast_S_S4096x200x1 : Sc F → Col F),
    binary main_v17 main_v20 main_v21 (addf : Col F → Col F → Col F),
    unary main_v21 main_v22 (broadcastInDim S4096x200x64 ![0, 1, 2] bcast_S4096x200x1_S4096x200x64_0_1_2 : Col F → Big F),
    binary main_v19 main_v22 main_v23 (Host.divf : Big F → Big F → Big F),
    binary main_v18 main_v23 main_v24 (addf : Big F → Big F → Big F),
    binary main_v23 main_v15 main_v25 (mulf : Big F → Big F → Big F),
    nullary main_cst_6 (constant S_ .f32 0x40000000#32),
    unary main_cst_6 main_v26 (broadcastInDim S4096x200x1 ![] bcast_S_S4096x200x1 : Sc F → Col F),
    binary main_v17 main_v26 main_v27 (addf : Col F → Col F → Col F),
    unary main_v27 main_v28 (broadcastInDim S4096x200x64 ![0, 1, 2] bcast_S4096x200x1_S4096x200x64_0_1_2 : Col F → Big F),
    binary main_v25 main_v28 main_v29 (Host.divf : Big F → Big F → Big F),
    binary main_v24 main_v29 main_v30 (addf : Big F → Big F → Big F),
    binary main_v29 main_v15 main_v31 (mulf : Big F → Big F → Big F),
    nullary main_cst_7 (constant S_ .f32 0x40400000#32),
    unary main_cst_7 main_v32 (broadcastInDim S4096x200x1 ![] bcast_S_S4096x200x1 : Sc F → Col F),
    binary main_v17 main_v32 main_v33 (addf : Col F → Col F → Col F),
    unary main_v33 main_v34 (broadcastInDim S4096x200x64 ![0, 1, 2] bcast_S4096x200x1_S4096x200x64_0_1_2 : Col F → Big F),
    binary main_v31 main_v34 main_v35 (Host.divf : Big F → Big F → Big F),
    binary main_v30 main_v35 main_v36 (addf : Big F → Big F → Big F),
    binary main_v35 main_v15 main_v37 (mulf : Big F → Big F → Big F),
    nullary main_cst_8 (constant S_ .f32 0x40800000#32),
    unary main_cst_8 main_v38 (broadcastInDim S4096x200x1 ![] bcast_S_S4096x200x1 : Sc F → Col F),
    binary main_v17 main_v38 main_v39 (addf : Col F → Col F → Col F),
    unary main_v39 main_v40 (broadcastInDim S4096x200x64 ![0, 1, 2] bcast_S4096x200x1_S4096x200x64_0_1_2 : Col F → Big F),
    binary main_v37 main_v40 main_v41 (Host.divf : Big F → Big F → Big F),
    binary main_v36 main_v41 main_v42 (addf : Big F → Big F → Big F),
    binary main_v41 main_v15 main_v43 (mulf : Big F → Big F → Big F),
    nullary main_cst_9 (constant S_ .f32 0x40A00000#32),
    unary main_cst_9 main_v44 (broadcastInDim S4096x200x1 ![] bcast_S_S4096x200x1 : Sc F → Col F),
    binary main_v17 main_v44 main_v45 (addf : Col F → Col F → Col F),
    unary main_v45 main_v46 (broadcastInDim S4096x200x64 ![0, 1, 2] bcast_S4096x200x1_S4096x200x64_0_1_2 : Col F → Big F),
    binary main_v43 main_v46 main_v47 (Host.divf : Big F → Big F → Big F),
    binary main_v42 main_v47 main_v48 (addf : Big F → Big F → Big F) ]

/-- The series to its tenth. -/
abbrev opsC : List (HloOp τ sig (Elt F)) :=
  [ binary main_v47 main_v15 main_v49 (mulf : Big F → Big F → Big F),
    nullary main_cst_10 (constant S_ .f32 0x40C00000#32),
    unary main_cst_10 main_v50 (broadcastInDim S4096x200x1 ![] bcast_S_S4096x200x1 : Sc F → Col F),
    binary main_v17 main_v50 main_v51 (addf : Col F → Col F → Col F),
    unary main_v51 main_v52 (broadcastInDim S4096x200x64 ![0, 1, 2] bcast_S4096x200x1_S4096x200x64_0_1_2 : Col F → Big F),
    binary main_v49 main_v52 main_v53 (Host.divf : Big F → Big F → Big F),
    binary main_v48 main_v53 main_v54 (addf : Big F → Big F → Big F),
    binary main_v53 main_v15 main_v55 (mulf : Big F → Big F → Big F),
    nullary main_cst_11 (constant S_ .f32 0x40E00000#32),
    unary main_cst_11 main_v56 (broadcastInDim S4096x200x1 ![] bcast_S_S4096x200x1 : Sc F → Col F),
    binary main_v17 main_v56 main_v57 (addf : Col F → Col F → Col F),
    unary main_v57 main_v58 (broadcastInDim S4096x200x64 ![0, 1, 2] bcast_S4096x200x1_S4096x200x64_0_1_2 : Col F → Big F),
    binary main_v55 main_v58 main_v59 (Host.divf : Big F → Big F → Big F),
    binary main_v54 main_v59 main_v60 (addf : Big F → Big F → Big F),
    binary main_v59 main_v15 main_v61 (mulf : Big F → Big F → Big F),
    nullary main_cst_12 (constant S_ .f32 0x41000000#32),
    unary main_cst_12 main_v62 (broadcastInDim S4096x200x1 ![] bcast_S_S4096x200x1 : Sc F → Col F),
    binary main_v17 main_v62 main_v63 (addf : Col F → Col F → Col F),
    unary main_v63 main_v64 (broadcastInDim S4096x200x64 ![0, 1, 2] bcast_S4096x200x1_S4096x200x64_0_1_2 : Col F → Big F),
    binary main_v61 main_v64 main_v65 (Host.divf : Big F → Big F → Big F),
    binary main_v60 main_v65 main_v66 (addf : Big F → Big F → Big F),
    binary main_v65 main_v15 main_v67 (mulf : Big F → Big F → Big F),
    nullary main_cst_13 (constant S_ .f32 0x41100000#32),
    unary main_cst_13 main_v68 (broadcastInDim S4096x200x1 ![] bcast_S_S4096x200x1 : Sc F → Col F),
    binary main_v17 main_v68 main_v69 (addf : Col F → Col F → Col F),
    unary main_v69 main_v70 (broadcastInDim S4096x200x64 ![0, 1, 2] bcast_S4096x200x1_S4096x200x64_0_1_2 : Col F → Big F),
    binary main_v67 main_v70 main_v71 (Host.divf : Big F → Big F → Big F),
    binary main_v66 main_v71 main_v72 (addf : Big F → Big F → Big F),
    binary main_v71 main_v15 main_v73 (mulf : Big F → Big F → Big F),
    nullary main_cst_14 (constant S_ .f32 0x41200000#32),
    unary main_cst_14 main_v74 (broadcastInDim S4096x200x1 ![] bcast_S_S4096x200x1 : Sc F → Col F),
    binary main_v17 main_v74 main_v75 (addf : Col F → Col F → Col F),
    unary main_v75 main_v76 (broadcastInDim S4096x200x64 ![0, 1, 2] bcast_S4096x200x1_S4096x200x64_0_1_2 : Col F → Big F),
    binary main_v73 main_v76 main_v77 (Host.divf : Big F → Big F → Big F),
    binary main_v72 main_v77 main_v78 (addf : Big F → Big F → Big F) ]

/-- The exponent but for the log-gamma, and Stirling's formula to its first correction. -/
abbrev opsL : List (HloOp τ sig (Elt F)) :=
  [ unary main_v15 main_v79 (Host.log : Big F → Big F),
    unary main_v11 main_v80 (broadcastInDim S4096x200x64 ![0, 1, 2] bcast_S4096x200x1_S4096x200x64_0_1_2 : Col F → Big F),
    binary main_v80 main_v79 main_v81 (mulf : Big F → Big F → Big F),
    binary main_v81 main_v15 main_v82 (subf : Big F → Big F → Big F),
    nullary main_cst_15 (constant S_ .f32 0x3F800000#32),
    unary main_cst_15 main_v83 (broadcastInDim S4096x200x1 ![] bcast_S_S4096x200x1 : Sc F → Col F),
    binary main_v11 main_v83 main_v84 (addf : Col F → Col F → Col F),
    nullary main_cst_16 (constant S_ .f32 0x41000000#32),
    unary main_cst_16 main_v85 (broadcastInDim S4096x200x1 ![] bcast_S_S4096x200x1 : Sc F → Col F),
    binary main_v84 main_v85 main_v86 (addf : Col F → Col F → Col F),
    nullary main_cst_17 (constant S_ .f32 0x3F800000#32),
    unary main_cst_17 main_v87 (broadcastInDim S4096x200x1 ![] bcast_S_S4096x200x1 : Sc F → Col F),
    binary main_v87 main_v86 main_v88 (Host.divf : Col F → Col F → Col F),
    nullary main_cst_18 (constant S_ .f32 0x3F000000#32),
    unary main_cst_18 main_v89 (broadcastInDim S4096x200x1 ![] bcast_S_S4096x200x1 : Sc F → Col F),
    binary main_v86 main_v89 main_v90 (subf : Col F → Col F → Col F),
    unary main_v86 main_v91 (Host.log : Col F → Col F),
    binary main_v90 main_v91 main_v92 (mulf : Col F → Col F → Col F),
    binary main_v92 main_v86 main_v93 (subf : Col F → Col F → Col F),
    nullary main_cst_19 (constant S_ .f32 0x3F6B3F8E#32),
    unary main_cst_19 main_v94 (broadcastInDim S4096x200x1 ![] bcast_S_S4096x200x1 : Sc F → Col F),
    binary main_v93 main_v94 main_v95 (addf : Col F → Col F → Col F),
    nullary main_cst_20 (constant S_ .f32 0x3DAAAAAB#32),
    unary main_cst_20 main_v96 (broadcastInDim S4096x200x1 ![] bcast_S_S4096x200x1 : Sc F → Col F),
    binary main_v96 main_v88 main_v97 (mulf : Col F → Col F → Col F) ]

/-- Its other corrections. -/
abbrev opsM : List (HloOp τ sig (Elt F)) :=
  [ binary main_v95 main_v97 main_v98 (addf : Col F → Col F → Col F),
    binary main_v88 main_v88 main_v99 (mulf : Col F → Col F → Col F),
    binary main_v99 main_v88 main_v100 (mulf : Col F → Col F → Col F),
    nullary main_cst_21 (constant S_ .f32 0x3B360B61#32),
    unary main_cst_21 main_v101 (broadcastInDim S4096x200x1 ![] bcast_S_S4096x200x1 : Sc F → Col F),
    binary main_v101 main_v100 main_v102 (mulf : Col F → Col F → Col F),
    binary main_v98 main_v102 main_v103 (subf : Col F → Col F → Col F),
    binary main_v88 main_v88 main_v104 (mulf : Col F → Col F → Col F),
    binary main_v104 main_v104 main_v105 (mulf : Col F → Col F → Col F),
    binary main_v88 main_v105 main_v106 (mulf : Col F → Col F → Col F),
    nullary main_cst_22 (constant S_ .f32 0x3A500D01#32),
    unary main_cst_22 main_v107 (broadcastInDim S4096x200x1 ![] bcast_S_S4096x200x1 : Sc F → Col F),
    binary main_v107 main_v106 main_v108 (mulf : Col F → Col F → Col F),
    binary main_v103 main_v108 main_v109 (addf : Col F → Col F → Col F) ]

/-- The log-gamma, and the result. -/
abbrev opsD : List (HloOp τ sig (Elt F)) :=
  [ nullary main_cst_23 (constant S_ .f32 0x00000000#32),
    unary main_cst_23 main_v110 (broadcastInDim S4096x200x1 ![] bcast_S_S4096x200x1 : Sc F → Col F),
    binary main_v84 main_v110 main_v111 (addf : Col F → Col F → Col F),
    unary main_v111 main_v112 (Host.log : Col F → Col F),
    binary main_v109 main_v112 main_v113 (subf : Col F → Col F → Col F),
    nullary main_cst_24 (constant S_ .f32 0x3F800000#32),
    unary main_cst_24 main_v114 (broadcastInDim S4096x200x1 ![] bcast_S_S4096x200x1 : Sc F → Col F),
    binary main_v84 main_v114 main_v115 (addf : Col F → Col F → Col F),
    unary main_v115 main_v116 (Host.log : Col F → Col F),
    binary main_v113 main_v116 main_v117 (subf : Col F → Col F → Col F),
    nullary main_cst_25 (constant S_ .f32 0x40000000#32),
    unary main_cst_25 main_v118 (broadcastInDim S4096x200x1 ![] bcast_S_S4096x200x1 : Sc F → Col F),
    binary main_v84 main_v118 main_v119 (addf : Col F → Col F → Col F),
    unary main_v119 main_v120 (Host.log : Col F → Col F),
    binary main_v117 main_v120 main_v121 (subf : Col F → Col F → Col F),
    nullary main_cst_26 (constant S_ .f32 0x40400000#32),
    unary main_cst_26 main_v122 (broadcastInDim S4096x200x1 ![] bcast_S_S4096x200x1 : Sc F → Col F),
    binary main_v84 main_v122 main_v123 (addf : Col F → Col F → Col F),
    unary main_v123 main_v124 (Host.log : Col F → Col F),
    binary main_v121 main_v124 main_v125 (subf : Col F → Col F → Col F),
    nullary main_cst_27 (constant S_ .f32 0x40800000#32),
    unary main_cst_27 main_v126 (broadcastInDim S4096x200x1 ![] bcast_S_S4096x200x1 : Sc F → Col F),
    binary main_v84 main_v126 main_v127 (addf : Col F → Col F → Col F),
    unary main_v127 main_v128 (Host.log : Col F → Col F),
    binary main_v125 main_v128 main_v129 (subf : Col F → Col F → Col F),
    nullary main_cst_28 (constant S_ .f32 0x40A00000#32),
    unary main_cst_28 main_v130 (broadcastInDim S4096x200x1 ![] bcast_S_S4096x200x1 : Sc F → Col F),
    binary main_v84 main_v130 main_v131 (addf : Col F → Col F → Col F),
    unary main_v131 main_v132 (Host.log : Col F → Col F),
    binary main_v129 main_v132 main_v133 (subf : Col F → Col F → Col F),
    nullary main_cst_29 (constant S_ .f32 0x40C00000#32),
    unary main_cst_29 main_v134 (broadcastInDim S4096x200x1 ![] bcast_S_S4096x200x1 : Sc F → Col F),
    binary main_v84 main_v134 main_v135 (addf : Col F → Col F → Col F),
    unary main_v135 main_v136 (Host.log : Col F → Col F),
    binary main_v133 main_v136 main_v137 (subf : Col F → Col F → Col F),
    nullary main_cst_30 (constant S_ .f32 0x40E00000#32),
    unary main_cst_30 main_v138 (broadcastInDim S4096x200x1 ![] bcast_S_S4096x200x1 : Sc F → Col F),
    binary main_v84 main_v138 main_v139 (addf : Col F → Col F → Col F),
    unary main_v139 main_v140 (Host.log : Col F → Col F),
    binary main_v137 main_v140 main_v141 (subf : Col F → Col F → Col F),
    unary main_v141 main_v142 (broadcastInDim S4096x200x64 ![0, 1, 2] bcast_S4096x200x1_S4096x200x64_0_1_2 : Col F → Big F),
    binary main_v82 main_v142 main_v143 (subf : Big F → Big F → Big F),
    unary main_v143 main_v144 (Host.exp : Big F → Big F),
    binary main_v144 main_v78 main_v145 (mulf : Big F → Big F → Big F) ]

abbrev ops : List (HloOp τ sig (Elt F)) := opsA ++ (opsT ++ (opsS ++ (opsX ++ (opsB ++ (opsC ++ (opsL ++ (opsM ++ opsD)))))))

set_option maxRecDepth 8192 in
theorem part0_eq (d : Dev nD) : main_part0 (F := F) d = seq (opsA ++ (opsT ++ (opsS ++ (opsX ++ opsB)))) := by
  simp only [main_part0, fn_take.body, fn_where.body, fn_softplus.body, List.cons_append, List.nil_append, seq, bind_assoc, pure_bind]
  rfl
set_option maxRecDepth 8192 in
theorem part1_eq (d : Dev nD) : main_part1 (F := F) d = seq (opsC ++ opsL) := by
  simp only [main_part1, List.cons_append, List.nil_append, seq, bind_assoc, pure_bind]
  rfl
set_option maxRecDepth 8192 in
theorem part2_eq (d : Dev nD) : main_part2 (F := F) d = seq (opsM ++ opsD) := by
  simp only [main_part2, List.cons_append, List.nil_append, seq, bind_assoc, pure_bind]

theorem main_eq (d : Dev nD) : main (F := F) d = seq ops := by
  rw [show main (F := F) d = (main_part0 d >>= fun _ => main_part1 d >>= fun _ => main_part2 d) from rfl, part0_eq, part1_eq, part2_eq,
    ← seq_append, ← seq_append]
  unfold ops
  simp only [List.append_assoc]

theorem scopedRefs_eq : (Finset.univ.filter fun b : Ref sig .tc => b.isScoped) = ∅ := by decide
theorem scopedSems_eq : (Finset.univ.filter fun sm : SemLoc sig => sm.isScoped .tc) = ∅ := by decide

theorem subA : (opsA : List (HloOp τ sig (Elt F))).Forall fun op => op.bufs ⊆ tcRefs τ sig :=
  ⟨nullary_bufs_sub .., unary_bufs_sub .., binary_bufs_sub .., unary_bufs_sub .., unary_bufs_sub .., unary_bufs_sub ..⟩
theorem subT : (opsT : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem subS : (opsS : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem subX : (opsX : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub ..⟩
theorem subB : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., binary_bufs_sub .., binary_bufs_sub .., nullary_bufs_sub .., unary_bufs_sub .., binary_bufs_sub .., unary_bufs_sub .., binary_bufs_sub .., binary_bufs_sub .., binary_bufs_sub .., nullary_bufs_sub .., unary_bufs_sub .., binary_bufs_sub .., unary_bufs_sub .., binary_bufs_sub .., binary_bufs_sub .., binary_bufs_sub .., nullary_bufs_sub .., unary_bufs_sub .., binary_bufs_sub .., unary_bufs_sub .., binary_bufs_sub .., binary_bufs_sub .., binary_bufs_sub .., nullary_bufs_sub .., unary_bufs_sub .., binary_bufs_sub .., unary_bufs_sub .., binary_bufs_sub .., binary_bufs_sub ..⟩
theorem subC : (opsC : List (HloOp τ sig (Elt F))).Forall fun op => op.bufs ⊆ tcRefs τ sig :=
  ⟨binary_bufs_sub .., nullary_bufs_sub .., unary_bufs_sub .., binary_bufs_sub .., unary_bufs_sub .., binary_bufs_sub .., binary_bufs_sub .., binary_bufs_sub .., nullary_bufs_sub .., unary_bufs_sub .., binary_bufs_sub .., unary_bufs_sub .., binary_bufs_sub .., binary_bufs_sub .., binary_bufs_sub .., nullary_bufs_sub .., unary_bufs_sub .., binary_bufs_sub .., unary_bufs_sub .., binary_bufs_sub .., binary_bufs_sub .., binary_bufs_sub .., nullary_bufs_sub .., unary_bufs_sub .., binary_bufs_sub .., unary_bufs_sub .., binary_bufs_sub .., binary_bufs_sub .., binary_bufs_sub .., nullary_bufs_sub .., unary_bufs_sub .., binary_bufs_sub .., unary_bufs_sub .., binary_bufs_sub .., binary_bufs_sub ..⟩
theorem subL : (opsL : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub ..⟩
theorem subM : (opsM : List (HloOp τ sig (Elt F))).Forall fun op => op.bufs ⊆ tcRefs τ sig :=
  ⟨binary_bufs_sub .., binary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., binary_bufs_sub ..⟩
theorem subD : (opsD : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub ..⟩

theorem ops_sub : (ops : List (HloOp τ sig (Elt F))).Forall fun op => op.bufs ⊆ tcRefs τ sig := by
  unfold ops
  simp only [List.forall_append]
  exact ⟨subA, subT, subS, subX, subB, subC, subL, subM, subD⟩

theorem run (m : (ℓ : Loc nD τ sig) → Buf (Elt F) ℓ) (ρ : Dev nD → PrngReg) :
    θ_run (defs (F := F)) (onTc (τ := τ) (main (F := F))) ⟨m, fun _ => 0, ρ⟩ fun r =>
      (∀ (c : Dev nD) (b : Ref sig .tc), r.2.mem ((c.tc : Thread nD τ).loc b) = after ops (launchContents m c) (b : DevRef τ sig)) :=
  run_seq scopedRefs_eq scopedSems_eq defs main (fun _ => ops) main_eq (fun _ => ops_sub) m ρ

end Cert.Proof.Ref

end
-- ==== Proof.RefVals.lean ====
/-
  The reference's value: what each stretch of its operations leaves, and the whole at one position and feature.
-/
module

public import proofs.«01_k».proof.Proof.RefRun
public import Idealize.ShloMosaic.Lib.ReduceAll
public import Idealize.ShloMosaic.Lib.Pointwise.Index

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## What each stretch writes -/

abbrev WA : List (Ref sig .tc) :=
  [main_cst, main_v0, main_v1, main_v2, main_v3, main_v4]
theorem keepA (V : Valuation τ sig (Elt F)) {r : Ref sig .tc} (h : r ∉ WA) : after opsA V (r : DevRef τ sig) = V (r : DevRef τ sig) :=
  after_of_writes_sub _ V (forall_writes_sub_of_map rfl) h
abbrev WT : List (Ref sig .tc) :=
  [main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref]
theorem keepT (V : Valuation τ sig (Elt F)) {r : Ref sig .tc} (h : r ∉ WT) : after opsT V (r : DevRef τ sig) = V (r : DevRef τ sig) :=
  after_of_writes_sub _ V (forall_writes_sub_of_map rfl) h
abbrev WS : List (Ref sig .tc) :=
  [main_call1.cst.ref, main_call1.v0.ref, main_call1.v1.ref, main_call1.v2.ref, main_call1.v3.ref, main_call1.v4.ref, main_call1.v5.ref, main_call1.v6.ref, main_call1.v7.ref, main_call1.v8.ref, main_call1.v9.ref, main_call1.v10.ref, main_call1.v11.ref, main_call1.v12.ref]
theorem keepS (V : Valuation τ sig (Elt F)) {r : Ref sig .tc} (h : r ∉ WS) : after opsS V (r : DevRef τ sig) = V (r : DevRef τ sig) :=
  after_of_writes_sub _ V (forall_writes_sub_of_map rfl) h
abbrev WX : List (Ref sig .tc) :=
  [main_cst_0, main_v7, main_v8, main_cst_1, main_v9, main_v10, main_v11, main_v12, main_v13, main_cst_2, main_v14, main_v15, main_cst_3, main_v16, main_v17]
theorem keepX (V : Valuation τ sig (Elt F)) {r : Ref sig .tc} (h : r ∉ WX) : after opsX V (r : DevRef τ sig) = V (r : DevRef τ sig) :=
  after_of_writes_sub _ V (forall_writes_sub_of_map rfl) h
abbrev WB : List (Ref sig .tc) :=
  [main_cst_4, main_v18, main_v19, main_cst_5, main_v20, main_v21, main_v22, main_v23, main_v24, main_v25, main_cst_6, main_v26, main_v27, main_v28, main_v29, main_v30, main_v31, main_cst_7, main_v32, main_v33, main_v34, main_v35, main_v36, main_v37, main_cst_8, main_v38, main_v39, main_v40, main_v41, main_v42, main_v43, main_cst_9, main_v44, main_v45, main_v46, main_v47, main_v48]
theorem keepB (V : Valuation τ sig (Elt F)) {r : Ref sig .tc} (h : r ∉ WB) : after opsB V (r : DevRef τ sig) = V (r : DevRef τ sig) :=
  after_of_writes_sub _ V (forall_writes_sub_of_map rfl) h
abbrev WC : List (Ref sig .tc) :=
  [main_v49, main_cst_10, main_v50, main_v51, main_v52, main_v53, main_v54, main_v55, main_cst_11, main_v56, main_v57, main_v58, main_v59, main_v60, main_v61, main_cst_12, main_v62, main_v63, main_v64, main_v65, main_v66, main_v67, main_cst_13, main_v68, main_v69, main_v70, main_v71, main_v72, main_v73, main_cst_14, main_v74, main_v75, main_v76, main_v77, main_v78]
theorem keepC (V : Valuation τ sig (Elt F)) {r : Ref sig .tc} (h : r ∉ WC) : after opsC V (r : DevRef τ sig) = V (r : DevRef τ sig) :=
  after_of_writes_sub _ V (forall_writes_sub_of_map rfl) h
abbrev WL : List (Ref sig .tc) :=
  [main_v79, main_v80, main_v81, main_v82, main_cst_15, main_v83, main_v84, main_cst_16, main_v85, main_v86, main_cst_17, main_v87, main_v88, main_cst_18, main_v89, main_v90, main_v91, main_v92, main_v93, main_cst_19, main_v94, main_v95, main_cst_20, main_v96, main_v97]
theorem keepL (V : Valuation τ sig (Elt F)) {r : Ref sig .tc} (h : r ∉ WL) : after opsL V (r : DevRef τ sig) = V (r : DevRef τ sig) :=
  after_of_writes_sub _ V (forall_writes_sub_of_map rfl) h
abbrev WM : List (Ref sig .tc) :=
  [main_v98, main_v99, main_v100, main_cst_21, main_v101, main_v102, main_v103, main_v104, main_v105, main_v106, main_cst_22, main_v107, main_v108, main_v109]
theorem keepM (V : Valuation τ sig (Elt F)) {r : Ref sig .tc} (h : r ∉ WM) : after opsM V (r : DevRef τ sig) = V (r : DevRef τ sig) :=
  after_of_writes_sub _ V (forall_writes_sub_of_map rfl) h
abbrev WD : List (Ref sig .tc) :=
  [main_cst_23, main_v110, main_v111, main_v112, main_v113, main_cst_24, main_v114, main_v115, main_v116, main_v117, main_cst_25, main_v118, main_v119, main_v120, main_v121, main_cst_26, main_v122, main_v123, main_v124, main_v125, main_cst_27, main_v126, main_v127, main_v128, main_v129, main_cst_28, main_v130, main_v131, main_v132, main_v133, main_cst_29, main_v134, main_v135, main_v136, main_v137, main_cst_30, main_v138, main_v139, main_v140, main_v141, main_v142, main_v143, main_v144, main_v145]
theorem keepD (V : Valuation τ sig (Elt F)) {r : Ref sig .tc} (h : r ∉ WD) : after opsD V (r : DevRef τ sig) = V (r : DevRef τ sig) :=
  after_of_writes_sub _ V (forall_writes_sub_of_map rfl) h

/-! ## What each stretch leaves -/

/-- A constant column, a constant array, a column at every feature, a matrix as a column. -/
def K (w : BitVec 32) : Col F := broadcastInDim S4096x200x1 ![] bcast_S_S4096x200x1 (constant S_ .f32 w)
def KB (w : BitVec 32) : Big F := broadcastInDim S4096x200x64 ![] bcast_S_S4096x200x64 (constant S_ .f32 w)
def wide (v : Col F) : Big F := broadcastInDim S4096x200x64 ![0, 1, 2] bcast_S4096x200x1_S4096x200x64_0_1_2 v
def asCol (v : Mat F) : Col F := broadcastInDim S4096x200x1 ![0, 1] bcast_S4096x200_S4096x200x1_0_1 v

/-- The column of logarithms. -/
def logs (t : Mat F) : Col F :=
  asCol (Host.log (addf t (broadcastInDim S4096x200 ![] bcast_S_S4096x200 (constant S_ .f32 0x3089705F#32) : Mat F)))

/-- The wrapped index list, as a column. -/
def col (w : IVec S4096x200 32) : IVec S4096x200x1 32 :=
  broadcastInDim S4096x200x1 ![0, 1] bcast_S4096x200_S4096x200x1_0_1
    (select (cmpi .slt w (broadcastInDim S4096x200 ![] bcast_S_S4096x200 (constantI S_ 32 0#32)))
      (addi w (broadcastInDim S4096x200 ![] bcast_S_S4096x200 (constantI S_ 32 100001#32))) w)

/-- Which indices are rows of the table. -/
def ok (w : IVec S4096x200 32) : IVec S4096x200 1 :=
  Host.reduce IntOp.andi
    (andi (cmpi .sge (col w) (broadcastInDim S4096x200x1 ![] bcast_S_S4096x200x1 (constantI S_ 32 0#32)))
      (cmpi .sle (col w) (broadcastInDim S4096x200x1 ![0, 1, 2] bcast_S1x1x1_S4096x200x1_0_1_2
        (broadcastInDim S1x1x1 ![2] bcast_S1_S1x1x1_2 (constantI S1 32 100000#32)))))
    (constantI S_ 1 1#1) reducesTo_S4096x200x1_S4096x200_d2 h_S_

def take (t : FVec F S100001x64 .f32) (w : IVec S4096x200 32) : FVec F S4096x200x64 .f32 :=
  select (broadcastInDim S4096x200x64 ![0, 1] bcast_S4096x200_S4096x200x64_0_1 (ok w))
    (Host.gather gather_S100001x64_S4096x200x1_S4096x200x64_2_0_n_n_0_2_164 t (col w))
    (broadcastInDim S4096x200x64 ![] bcast_S_S4096x200x64 (constant S_ .f32 0x7FC00000#32))

def soft (g : Big F) : Big F :=
  select (cmpf .une (subf g (KB 0x00000000#32)) (subf g (KB 0x00000000#32))) (addf g (KB 0x00000000#32))
    (addf (maximumf g (KB 0x00000000#32)) (Host.log1p (Host.exp (Host.negf (Host.absf (subf g (KB 0x00000000#32)))))))

def shp (u : Col F) : Col F := mulf (mulf (K 0x3F000000#32) (mulf u (K 0x3F800000#32))) (mulf u (K 0x3F800000#32))
def arg (b : Col F) (l : Big F) : Big F := addf (Host.divf (wide b) l) (KB 0x3089705F#32)

/-- One more term of the series. -/
def term (x : Big F) (s : Col F) (w : BitVec 32) (t : Big F) : Big F := Host.divf (mulf t x) (wide (addf s (K w)))

def t1 (x : Big F) (s : Col F) : Big F := term x s 0x3F800000#32 (KB 0x3F800000#32)
def t2 (x : Big F) (s : Col F) : Big F := term x s 0x40000000#32 (t1 x s)
def t3 (x : Big F) (s : Col F) : Big F := term x s 0x40400000#32 (t2 x s)
def t4 (x : Big F) (s : Col F) : Big F := term x s 0x40800000#32 (t3 x s)
def t5 (x : Big F) (s : Col F) : Big F := term x s 0x40A00000#32 (t4 x s)
def sum5 (x : Big F) (s : Col F) : Big F := addf (addf (addf (addf (addf (KB 0x3F800000#32) (t1 x s)) (t2 x s)) (t3 x s)) (t4 x s)) (t5 x s)

def t6 (x : Big F) (s : Col F) (t : Big F) : Big F := term x s 0x40C00000#32 t
def t7 (x : Big F) (s : Col F) (t : Big F) : Big F := term x s 0x40E00000#32 (t6 x s t)
def t8 (x : Big F) (s : Col F) (t : Big F) : Big F := term x s 0x41000000#32 (t7 x s t)
def t9 (x : Big F) (s : Col F) (t : Big F) : Big F := term x s 0x41100000#32 (t8 x s t)
def t10 (x : Big F) (s : Col F) (t : Big F) : Big F := term x s 0x41200000#32 (t9 x s t)
def sum10 (x : Big F) (s : Col F) (t q : Big F) : Big F := addf (addf (addf (addf (addf q (t6 x s t)) (t7 x s t)) (t8 x s t)) (t9 x s t)) (t10 x s t)

def expo (a : Col F) (x : Big F) : Big F := subf (mulf (wide a) (Host.log x)) x
def zed (a : Col F) : Col F := addf a (K 0x3F800000#32)
def big (z : Col F) : Col F := addf z (K 0x41000000#32)
def recip (z : Col F) : Col F := Host.divf (K 0x3F800000#32) (big z)
def stir (z : Col F) : Col F := addf (subf (mulf (subf (big z) (K 0x3F000000#32)) (Host.log (big z))) (big z)) (K 0x3F6B3F8E#32)
def cor (r : Col F) : Col F := mulf (K 0x3DAAAAAB#32) r
def stir3 (m c r : Col F) : Col F :=
  addf (subf (addf m c) (mulf (K 0x3B360B61#32) (mulf (mulf r r) r))) (mulf (K 0x3A500D01#32) (mulf r (mulf (mulf r r) (mulf r r))))

/-- One more logarithm taken off. -/
def less (z : Col F) (w : BitVec 32) (g : Col F) : Col F := subf g (Host.log (addf z (K w)))
def lgam (z g : Col F) : Col F :=
  less z 0x40E00000#32 (less z 0x40C00000#32 (less z 0x40A00000#32 (less z 0x40800000#32
    (less z 0x40400000#32 (less z 0x40000000#32 (less z 0x3F800000#32 (less z 0x00000000#32 g)))))))
def fin (e : Big F) (g : Col F) (q : Big F) : Big F := mulf (Host.exp (subf e (wide g))) q

section Stretch

attribute [local irreducible] Host.gather Host.reduce broadcastInDim
set_option maxRecDepth 16384

variable (V : Valuation τ sig (Elt F))

theorem A_v3 : after opsA V (main_v3 : DevRef τ sig) = logs (V (main_arg1 : DevRef τ sig)) := by
  after_results_simp
  rfl
theorem A_v4 : after opsA V (main_v4 : DevRef τ sig) = asCol (V (main_arg2 : DevRef τ sig)) := by
  after_results_simp
  rfl
theorem T_v5 : after opsT V (main_v5 : DevRef τ sig) = take (V (main_arg3 : DevRef τ sig)) (V (main_arg0 : DevRef τ sig)) := by
  after_results_simp
  simp only [TRef.ofBuf_toBuf]
  unfold take ok col
  rfl
theorem S_v6 : after opsS V (main_v6 : DevRef τ sig) = soft (V (main_v5 : DevRef τ sig)) := by
  after_results_simp
  simp only [TRef.ofBuf_toBuf]
  unfold soft
  rfl
theorem X_v11 : after opsX V (main_v11 : DevRef τ sig) = shp (V (main_v3 : DevRef τ sig)) := by
  after_results_simp
  rfl
theorem X_v15 : after opsX V (main_v15 : DevRef τ sig) = arg (V (main_v4 : DevRef τ sig)) (V (main_v6 : DevRef τ sig)) := by
  after_results_simp
  rfl
theorem X_v17 : after opsX V (main_v17 : DevRef τ sig) = minimumf (shp (V (main_v3 : DevRef τ sig))) (K 0x41C00000#32 : Col F) := by
  after_results_simp
  rfl
theorem B_v47 : after opsB V (main_v47 : DevRef τ sig) = t5 (V (main_v15 : DevRef τ sig)) (V (main_v17 : DevRef τ sig)) := by
  after_results_simp
  rfl
theorem B_v48 : after opsB V (main_v48 : DevRef τ sig) = sum5 (V (main_v15 : DevRef τ sig)) (V (main_v17 : DevRef τ sig)) := by
  after_results_simp
  rfl
theorem C_v78 : after opsC V (main_v78 : DevRef τ sig)
    = sum10 (V (main_v15 : DevRef τ sig)) (V (main_v17 : DevRef τ sig)) (V (main_v47 : DevRef τ sig)) (V (main_v48 : DevRef τ sig)) := by
  after_results_simp
  rfl
theorem L_v82 : after opsL V (main_v82 : DevRef τ sig) = expo (V (main_v11 : DevRef τ sig)) (V (main_v15 : DevRef τ sig)) := by
  after_results_simp
  rfl
theorem L_v84 : after opsL V (main_v84 : DevRef τ sig) = zed (V (main_v11 : DevRef τ sig)) := by
  after_results_simp
  rfl
theorem L_v88 : after opsL V (main_v88 : DevRef τ sig) = recip (zed (V (main_v11 : DevRef τ sig))) := by
  after_results_simp
  rfl
theorem L_v95 : after opsL V (main_v95 : DevRef τ sig) = stir (zed (V (main_v11 : DevRef τ sig))) := by
  after_results_simp
  rfl
theorem L_v97 : after opsL V (main_v97 : DevRef τ sig) = cor (recip (zed (V (main_v11 : DevRef τ sig)))) := by
  after_results_simp
  rfl
theorem M_v109 : after opsM V (main_v109 : DevRef τ sig)
    = stir3 (V (main_v95 : DevRef τ sig)) (V (main_v97 : DevRef τ sig)) (V (main_v88 : DevRef τ sig)) := by
  after_results_simp
  rfl
theorem D_v145 : after opsD V (main_v145 : DevRef τ sig)
    = fin (V (main_v82 : DevRef τ sig)) (lgam (V (main_v84 : DevRef τ sig)) (V (main_v109 : DevRef τ sig))) (V (main_v78 : DevRef τ sig)) := by
  after_results_simp
  rfl

end Stretch

/-! ## The whole -/

section Whole

variable (V : Valuation τ sig (Elt F))

/-- The result from the logarithms, the behaviour, and the gathered rows. -/
def whole (u b : Col F) (g : Big F) : Big F :=
  fin (expo (shp u) (arg b (soft g)))
    (lgam (zed (shp u)) (stir3 (stir (zed (shp u))) (cor (recip (zed (shp u)))) (recip (zed (shp u)))))
    (sum10 (arg b (soft g)) (minimumf (shp u) (K 0x41C00000#32)) (t5 (arg b (soft g)) (minimumf (shp u) (K 0x41C00000#32)))
      (sum5 (arg b (soft g)) (minimumf (shp u) (K 0x41C00000#32))))

theorem after_ops (r : DevRef τ sig) : after ops V r
    = after opsD (after opsM (after opsL (after opsC (after opsB (after opsX (after opsS (after opsT (after opsA V)))))))) r := by
  unfold ops
  simp only [after_append]

/-- The arguments, which main writes nowhere. -/
theorem keep {r : Ref sig .tc} (h : r ∉ WA ++ WT ++ WS ++ WX ++ WB ++ WC ++ WL ++ WM ++ WD) :
    after ops V (r : DevRef τ sig) = V (r : DevRef τ sig) := by
  simp only [List.mem_append, not_or] at h
  obtain ⟨⟨⟨⟨⟨⟨⟨⟨hA, hT⟩, hS⟩, hX⟩, hB⟩, hC⟩, hL⟩, hM⟩, hD⟩ := h
  rw [after_ops, keepD _ hD, keepM _ hM, keepL _ hL, keepC _ hC, keepB _ hB, keepX _ hX, keepS _ hS, keepT _ hT, keepA _ hA]

theorem out_eq : after ops V (main_v145 : DevRef τ sig)
    = whole (logs (V (main_arg1 : DevRef τ sig))) (asCol (V (main_arg2 : DevRef τ sig)))
        (take (V (main_arg3 : DevRef τ sig)) (V (main_arg0 : DevRef τ sig))) := by
  rw [after_ops, D_v145]
  rw [keepM _ (r := main_v82) (by decide), keepM _ (r := main_v84) (by decide), keepM _ (r := main_v78) (by decide), M_v109]
  rw [L_v82, L_v84, L_v88, L_v95, L_v97, keepL _ (r := main_v78) (by decide)]
  rw [C_v78, keepC _ (r := main_v11) (by decide), keepC _ (r := main_v15) (by decide)]
  rw [B_v47, B_v48, keepB _ (r := main_v11) (by decide), keepB _ (r := main_v15) (by decide), keepB _ (r := main_v17) (by decide)]
  rw [X_v11, X_v15, X_v17]
  rw [S_v6, keepS _ (r := main_v3) (by decide), keepS _ (r := main_v4) (by decide)]
  rw [T_v5, keepT _ (r := main_v3) (by decide), keepT _ (r := main_v4) (by decide)]
  rw [A_v3, A_v4, keepA _ (r := main_arg0) (by decide), keepA _ (r := main_arg3) (by decide)]
  rfl

end Whole

/-! ## At one position and feature -/

section Point

/-- The scalar operations the host program uses. -/
def w (b : BitVec 32) : F .f32 := FloatOps.ofBits .f32 b

def s_log (t : F .f32) : F .f32 := FloatOps.hostUnary .log (FloatOps.addf t (w 0x3089705F#32))
def s_soft (g : F .f32) : F .f32 :=
  Scalar.select (FloatOps.cmpf .une (FloatOps.subf g (w 0x00000000#32)) (FloatOps.subf g (w 0x00000000#32))) (FloatOps.addf g (w 0x00000000#32))
    (FloatOps.addf (FloatOps.maximumf g (w 0x00000000#32))
      (FloatOps.hostUnary .log1p (FloatOps.hostUnary .exp (FloatOps.hostNegf (FloatOps.hostAbsf (FloatOps.subf g (w 0x00000000#32)))))))
def s_shp (u : F .f32) : F .f32 :=
  FloatOps.mulf (FloatOps.mulf (w 0x3F000000#32) (FloatOps.mulf u (w 0x3F800000#32))) (FloatOps.mulf u (w 0x3F800000#32))
def s_arg (b l : F .f32) : F .f32 := FloatOps.addf (FloatOps.hostDivf b l) (w 0x3089705F#32)
def s_term (x s : F .f32) (k : BitVec 32) (t : F .f32) : F .f32 := FloatOps.hostDivf (FloatOps.mulf t x) (FloatOps.addf s (w k))

/-- The sum of ten terms more, from a term and the sum so far. -/
def s_sum (x s : F .f32) : List (BitVec 32) → F .f32 → F .f32 → F .f32
  | [], _, q => q
  | k :: ks, t, q => s_sum x s ks (s_term x s k t) (FloatOps.addf q (s_term x s k t))

def s_less (z : F .f32) : List (BitVec 32) → F .f32 → F .f32
  | [], g => g
  | k :: ks, g => s_less z ks (FloatOps.subf g (FloatOps.hostUnary .log (FloatOps.addf z (w k))))

def s_big (z : F .f32) : F .f32 := FloatOps.addf z (w 0x41000000#32)
def s_stir (z : F .f32) : F .f32 :=
  let s := s_big z
  let r := FloatOps.hostDivf (w 0x3F800000#32) s
  FloatOps.addf (FloatOps.subf (FloatOps.addf
      (FloatOps.addf (FloatOps.subf (FloatOps.mulf (FloatOps.subf s (w 0x3F000000#32)) (FloatOps.hostUnary .log s)) s) (w 0x3F6B3F8E#32))
      (FloatOps.mulf (w 0x3DAAAAAB#32) r))
      (FloatOps.mulf (w 0x3B360B61#32) (FloatOps.mulf (FloatOps.mulf r r) r)))
    (FloatOps.mulf (w 0x3A500D01#32) (FloatOps.mulf r (FloatOps.mulf (FloatOps.mulf r r) (FloatOps.mulf r r))))

/-- The log-gamma of one more than the shape parameter. -/
def s_lg (a : F .f32) : F .f32 :=
  s_less (FloatOps.addf a (w 0x3F800000#32))
    [0x00000000#32, 0x3F800000#32, 0x40000000#32, 0x40400000#32, 0x40800000#32, 0x40A00000#32, 0x40C00000#32, 0x40E00000#32]
    (s_stir (FloatOps.addf a (w 0x3F800000#32)))

/-- The incomplete gamma function as the reference sums it. -/
def s_inc (a x : F .f32) : F .f32 :=
  FloatOps.mulf
    (FloatOps.hostUnary .exp (FloatOps.subf (FloatOps.subf (FloatOps.mulf a (FloatOps.hostUnary .log x)) x) (s_lg a)))
    (s_sum x (FloatOps.minimumf a (w 0x41C00000#32))
      [0x3F800000#32, 0x40000000#32, 0x40400000#32, 0x40800000#32, 0x40A00000#32, 0x40C00000#32, 0x40E00000#32, 0x41000000#32,
        0x41100000#32, 0x41200000#32] (w 0x3F800000#32) (w 0x3F800000#32))

/-- The reference at one position and feature: of the gathered element, the time and the behaviour. -/
def s_ref (g t b : F .f32) : F .f32 := s_inc (s_shp (s_log t)) (s_arg b (s_soft g))

variable (y : S4096x200x64.Idx)

/-- The position. -/
abbrev pos : S4096x200x1.Idx := ix3 (y 0) (y 1) 0

theorem wide_at (v : Col F) : wide v y = v (pos y) := by
  unfold wide broadcastInDim
  congr 1
  funext a
  match a with
  | 0 => rfl
  | 1 => rfl
  | 2 => rfl

theorem asCol_at (v : Mat F) (z : S4096x200x1.Idx) : asCol v z = v (ix2 (z 0) (z 1)) := by
  unfold asCol broadcastInDim
  congr 1
  funext a
  match a with
  | 0 => rfl
  | 1 => rfl

theorem term_at (x : Big F) (s : Col F) (k : BitVec 32) (t : Big F) : term x s k t y = s_term (x y) (s (pos y)) k (t y) :=
  congrArg (FloatOps.hostDivf (FloatOps.mulf (t y) (x y))) (wide_at y _)
theorem arg_at (b : Col F) (l : Big F) : arg b l y = s_arg (b (pos y)) (l y) :=
  congrArg (fun v => FloatOps.addf (FloatOps.hostDivf v (l y)) (w 0x3089705F#32)) (wide_at y b)
theorem expo_at (a : Col F) (x : Big F) :
    expo a x y = FloatOps.subf (FloatOps.mulf (a (pos y)) (FloatOps.hostUnary .log (x y))) (x y) :=
  congrArg (fun v => FloatOps.subf (FloatOps.mulf v (FloatOps.hostUnary .log (x y))) (x y)) (wide_at y a)
theorem fin_at (e : Big F) (g : Col F) (q : Big F) :
    fin e g q y = FloatOps.mulf (FloatOps.hostUnary .exp (FloatOps.subf (e y) (g (pos y)))) (q y) :=
  congrArg (fun v => FloatOps.mulf (FloatOps.hostUnary .exp (FloatOps.subf (e y) v)) (q y)) (wide_at y g)

theorem sum_at (x : Big F) (s : Col F) :
    sum10 x s (t5 x s) (sum5 x s) y
      = s_sum (x y) (s (pos y)) [0x3F800000#32, 0x40000000#32, 0x40400000#32, 0x40800000#32, 0x40A00000#32, 0x40C00000#32, 0x40E00000#32,
          0x41000000#32, 0x41100000#32, 0x41200000#32] (w 0x3F800000#32) (w 0x3F800000#32) := by
  have h1 : t1 x s y = s_term (x y) (s (pos y)) 0x3F800000#32 (w 0x3F800000#32) := term_at y x s _ _
  have h2 := term_at y x s 0x40000000#32 (t1 x s)
  have h3 := term_at y x s 0x40400000#32 (t2 x s)
  have h4 := term_at y x s 0x40800000#32 (t3 x s)
  have h5 := term_at y x s 0x40A00000#32 (t4 x s)
  have h6 := term_at y x s 0x40C00000#32 (t5 x s)
  have h7 := term_at y x s 0x40E00000#32 (t6 x s (t5 x s))
  have h8 := term_at y x s 0x41000000#32 (t7 x s (t5 x s))
  have h9 := term_at y x s 0x41100000#32 (t8 x s (t5 x s))
  have h10 := term_at y x s 0x41200000#32 (t9 x s (t5 x s))
  change t2 x s y = _ at h2
  change t3 x s y = _ at h3
  change t4 x s y = _ at h4
  change t5 x s y = _ at h5
  change t6 x s (t5 x s) y = _ at h6
  change t7 x s (t5 x s) y = _ at h7
  change t8 x s (t5 x s) y = _ at h8
  change t9 x s (t5 x s) y = _ at h9
  change t10 x s (t5 x s) y = _ at h10
  show FloatOps.addf (FloatOps.addf (FloatOps.addf (FloatOps.addf (FloatOps.addf
    (FloatOps.addf (FloatOps.addf (FloatOps.addf (FloatOps.addf (FloatOps.addf (w 0x3F800000#32) (t1 x s y)) (t2 x s y)) (t3 x s y)) (t4 x s y)) (t5 x s y))
    (t6 x s (t5 x s) y)) (t7 x s (t5 x s) y)) (t8 x s (t5 x s) y)) (t9 x s (t5 x s) y)) (t10 x s (t5 x s) y) = _
  simp only [s_sum, h10, h9, h8, h7, h6, h5, h4, h3, h2, h1]

theorem whole_at (u b : Col F) (g : Big F) : whole u b g y = s_inc (s_shp (u (pos y))) (s_arg (b (pos y)) (s_soft (g y))) := by
  have hx : arg b (soft g) y = s_arg (b (pos y)) (s_soft (g y)) := arg_at y b (soft g)
  unfold whole
  rw [fin_at, expo_at, sum_at, hx]
  rfl

end Point

/-! ## The rows taken, at indices that are rows of the table -/

variable {w : IVec S4096x200 32}

theorem small_slt (v : BitVec 32) (h : v.toNat ≤ 100000) : IntOp.cmpi .slt v 0#32 = 0#1 := by
  have : BitVec.slt v 0#32 = false := by
    simp only [BitVec.slt_eq_decide, BitVec.toInt_eq_toNat_cond, BitVec.toNat_ofNat, Nat.reducePow, Nat.reduceMod, decide_eq_false_iff_not]
    omega
  simp only [IntOp.cmpi, this]; rfl
theorem small_sge (v : BitVec 32) (h : v.toNat ≤ 100000) : IntOp.cmpi .sge v 0#32 = 1#1 := by
  have : BitVec.sle 0#32 v = true := by
    simp only [BitVec.sle_eq_decide, BitVec.toInt_eq_toNat_cond, BitVec.toNat_ofNat, Nat.reducePow, Nat.reduceMod, decide_eq_true_eq]
    omega
  simp only [IntOp.cmpi, this]; rfl
theorem small_sle (v : BitVec 32) (h : v.toNat ≤ 100000) : IntOp.cmpi .sle v 100000#32 = 1#1 := by
  have : BitVec.sle v 100000#32 = true := by
    simp only [BitVec.sle_eq_decide, BitVec.toInt_eq_toNat_cond, BitVec.toNat_ofNat, Nat.reducePow, Nat.reduceMod, decide_eq_true_eq]
    omega
  simp only [IntOp.cmpi, this]; rfl
theorem small_toInt (v : BitVec 32) (h : v.toNat ≤ 100000) : v.toInt.toNat = v.toNat := by
  simp only [BitVec.toInt_eq_toNat_cond, Nat.reducePow]
  omega

theorem select_zero {α : Type} {c : BitVec 1} (h : c = 0#1) (a b : α) : Scalar.select c a b = b := by subst h; rfl
theorem select_one {α : Type} {c : BitVec 1} (h : c = 1#1) (a b : α) : Scalar.select c a b = a := by subst h; rfl

theorem col_at (h : ∀ x, (w x).toNat ≤ 100000) (z : S4096x200x1.Idx) : col w z = w (ix2 (z 0) (z 1)) := by
  have hz : ∀ x : S4096x200.Idx, select (cmpi .slt w (broadcastInDim S4096x200 ![] bcast_S_S4096x200 (constantI S_ 32 0#32)))
      (addi w (broadcastInDim S4096x200 ![] bcast_S_S4096x200 (constantI S_ 32 100001#32))) w x = w x :=
    fun x => select_zero (small_slt _ (h x)) _ _
  refine (hz _).trans (congrArg w ?_)
  funext a
  match a with
  | 0 => exact Fin.ext rfl
  | 1 => exact Fin.ext rfl

theorem ok_at (h : ∀ x, (w x).toNat ≤ 100000) (x) : ok w x = 1#1 := by
  refine Host.reduce_andi_one _ _ _ _ _ rfl fun z => ?_
  show IntOp.andi (IntOp.cmpi .sge (col w z) 0#32) (IntOp.cmpi .sle (col w z) 100000#32) = 1#1
  rw [col_at h, small_sge _ (h _), small_sle _ (h _)]
  rfl

theorem gather_at (t : FVec F S100001x64 .f32) (idx : IVec S4096x200x1 32) (y : S4096x200x64.Idx) :
    Host.gather gather_S100001x64_S4096x200x1_S4096x200x64_2_0_n_n_0_2_164 t idx y
      = t (ix2 ⟨min (idx (pos y)).toInt.toNat 100000, by omega⟩ (y 2)) := by
  unfold Host.gather
  congr 1
  funext a
  refine Fin.ext ?_
  match a with
  | 0 =>
    show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100001x64_S4096x200x1_S4096x200x64_2_0_n_n_0_2_164.startIndexMap from List.mem_singleton.mpr rfl)]
    have hsi : gather_S100001x64_S4096x200x1_S4096x200x64_2_0_n_n_0_2_164.siIdx y
        ⟨List.idxOf (0 : Fin 2) gather_S100001x64_S4096x200x1_S4096x200x64_2_0_n_n_0_2_164.startIndexMap,
          List.idxOf_lt_length_iff.2 (List.mem_singleton.mpr rfl)⟩ = pos y := by
      funext b; refine Fin.ext ?_
      match b with
      | 0 => rfl
      | 1 => rfl
      | 2 => rfl
    rw [hsi]
    rfl
  | 1 =>
    show GatherDims.start _ y idx 1 + GatherDims.batchCoord _ y 1 + GatherDims.offCoord _ y 1 = _
    rw [GatherDims.batchCoord_eq_zero _ _ _ List.not_mem_nil]
    unfold GatherDims.start GatherDims.offCoord
    rw [dif_neg (show (1 : Fin 2) ∉ gather_S100001x64_S4096x200x1_S4096x200x64_2_0_n_n_0_2_164.startIndexMap by decide),
      dif_pos (show (1 : Fin 2) ∈ gather_S100001x64_S4096x200x1_S4096x200x64_2_0_n_n_0_2_164.sKept by decide)]
    simp only [Nat.zero_add]
    rfl

theorem take_at (t : FVec F S100001x64 .f32) (h : ∀ x, (w x).toNat ≤ 100000) (y : S4096x200x64.Idx) :
    take t w y = t (ix2 ⟨(w (ix2 (y 0) (y 1))).toNat % 100001, Nat.mod_lt _ (by decide)⟩ (y 2)) := by
  have hok : broadcastInDim S4096x200x64 ![0, 1] bcast_S4096x200_S4096x200x64_0_1 (ok w) y = 1#1 := by
    unfold broadcastInDim
    exact ok_at h _
  unfold take
  refine (select_one hok _ _).trans ((gather_at t (col w) y).trans ?_)
  have hw : col w (pos y) = w (ix2 (y 0) (y 1)) := col_at h _
  have hlt := h (ix2 (y 0) (y 1))
  have hr : (⟨min (col w (pos y)).toInt.toNat 100000, by omega⟩ : Fin 100001) = ⟨(w (ix2 (y 0) (y 1))).toNat % 100001, Nat.mod_lt _ (by decide)⟩ := by
    refine Fin.ext ?_
    dsimp only
    rw [hw, small_toInt _ hlt, Nat.mod_eq_of_lt (by omega)]
    omega
  rw [hr]

/-- What the reference leaves at one position and feature. -/
theorem out_at (V : Valuation τ sig (Elt F)) (h : ∀ x, ((V (main_arg0 : DevRef τ sig) : IVec S4096x200 32) x).toNat ≤ 100000) (y : S4096x200x64.Idx) :
    (after ops V (main_v145 : DevRef τ sig) : FVec F S4096x200x64 .f32) y
      = s_ref ((V (main_arg3 : DevRef τ sig) : FVec F S100001x64 .f32)
            (ix2 ⟨((V (main_arg0 : DevRef τ sig) : IVec S4096x200 32) (ix2 (y 0) (y 1))).toNat % 100001, Nat.mod_lt _ (by decide)⟩ (y 2)))
          ((V (main_arg1 : DevRef τ sig) : FVec F S4096x200 .f32) (ix2 (y 0) (y 1)))
          ((V (main_arg2 : DevRef τ sig) : FVec F S4096x200 .f32) (ix2 (y 0) (y 1))) := by
  refine (congrFun (out_eq V) y).trans ((whole_at y _ _ _).trans ?_)
  rw [take_at _ h y]
  unfold logs
  rw [asCol_at, asCol_at]
  rfl

end Cert.Proof.Ref

end
-- ==== Proof.Algebra.lean ====
/-
  The algebra over the extended reals: an element's factor, as the kernel computes it, is the reference's at finite behaviour
  and rate.
-/
module

public import proofs.«01_k».proof.Proof.Values
public import proofs.«01_k».proof.Proof.RefVals

@[expose] public section

noncomputable section

namespace Cert.Proof.Algebra

open Idealize.ShloMosaic

/-! ## The constants -/

theorem c0 : Ideal.ofBits .f32 0x00000000#32 = ((0 : ℝ) : EReal) := by rw [Ideal.ofBits_zero_f32]; norm_cast
theorem c1 : Ideal.ofBits .f32 0x3F800000#32 = ((1 : ℝ) : EReal) := by simp [Ideal.ofBits, Ideal.ieee, -EReal.coe_mul]; norm_num
theorem c2 : Ideal.ofBits .f32 0x40000000#32 = ((2 : ℝ) : EReal) := by simp [Ideal.ofBits, Ideal.ieee, -EReal.coe_mul]; norm_num
theorem c3 : Ideal.ofBits .f32 0x40400000#32 = ((3 : ℝ) : EReal) := by simp [Ideal.ofBits, Ideal.ieee, -EReal.coe_mul]; norm_num
theorem c4 : Ideal.ofBits .f32 0x40800000#32 = ((4 : ℝ) : EReal) := by simp [Ideal.ofBits, Ideal.ieee, -EReal.coe_mul]; norm_num
theorem c5 : Ideal.ofBits .f32 0x40A00000#32 = ((5 : ℝ) : EReal) := by simp [Ideal.ofBits, Ideal.ieee, -EReal.coe_mul]; norm_num
theorem c6 : Ideal.ofBits .f32 0x40C00000#32 = ((6 : ℝ) : EReal) := by simp [Ideal.ofBits, Ideal.ieee, -EReal.coe_mul]; norm_num
theorem c7 : Ideal.ofBits .f32 0x40E00000#32 = ((7 : ℝ) : EReal) := by simp [Ideal.ofBits, Ideal.ieee, -EReal.coe_mul]; norm_num
theorem c8 : Ideal.ofBits .f32 0x41000000#32 = ((8 : ℝ) : EReal) := by simp [Ideal.ofBits, Ideal.ieee, -EReal.coe_mul]; norm_num
theorem c9 : Ideal.ofBits .f32 0x41100000#32 = ((9 : ℝ) : EReal) := by simp [Ideal.ofBits, Ideal.ieee, -EReal.coe_mul]; norm_num
theorem c10 : Ideal.ofBits .f32 0x41200000#32 = ((10 : ℝ) : EReal) := by simp [Ideal.ofBits, Ideal.ieee, -EReal.coe_mul]; norm_num
theorem c24 : Ideal.ofBits .f32 0x41C00000#32 = ((24 : ℝ) : EReal) := by simp [Ideal.ofBits, Ideal.ieee, -EReal.coe_mul]; norm_num
theorem chalf : Ideal.ofBits .f32 0x3F000000#32 = ((1 / 2 : ℝ) : EReal) := by simp [Ideal.ofBits, Ideal.ieee, -EReal.coe_mul]; norm_num

theorem ceps : ∃ r : ℝ, Ideal.ofBits .f32 0x3089705F#32 = (r : EReal) := by simp [Ideal.ofBits, Ideal.ieee, -EReal.coe_mul]
theorem cpi : ∃ r : ℝ, Ideal.ofBits .f32 0x3F6B3F8E#32 = (r : EReal) := by simp [Ideal.ofBits, Ideal.ieee, -EReal.coe_mul]
theorem c12 : ∃ r : ℝ, Ideal.ofBits .f32 0x3DAAAAAB#32 = (r : EReal) := by simp [Ideal.ofBits, Ideal.ieee, -EReal.coe_mul]
theorem c360 : ∃ r : ℝ, Ideal.ofBits .f32 0x3B360B61#32 = (r : EReal) := by simp [Ideal.ofBits, Ideal.ieee, -EReal.coe_mul]
theorem c1260 : ∃ r : ℝ, Ideal.ofBits .f32 0x3A500D01#32 = (r : EReal) := by simp [Ideal.ofBits, Ideal.ieee, -EReal.coe_mul]

theorem coe_max (r q : ℝ) : ((max r q : ℝ) : EReal) = max (r : EReal) (q : EReal) := EReal.coe_strictMono.monotone.map_max
theorem coe_min (r q : ℝ) : ((min r q : ℝ) : EReal) = min (r : EReal) (q : EReal) := EReal.coe_strictMono.monotone.map_min

theorem log_pos_coe {r : ℝ} (h : 0 < r) : Ideal.log (r : EReal) = (Real.log r : EReal) := by
  rw [Ideal.log_coe, if_neg (not_le.mpr h)]

/-! ## The rate -/

/-- The softplus of a real, as both programs compute it. -/
def sp (r : ℝ) : ℝ := max r 0 + Real.log (1 + Real.exp (-max r (-r)))

theorem sp_pos (r : ℝ) : 0 < sp r :=
  add_pos_of_nonneg_of_pos (le_max_right _ _) (Real.log_pos (by linarith [Real.exp_pos (-max r (-r))]))

theorem log1p_exp (r : ℝ) : Ideal.log1p (Ideal.exp ((-max r (-r) : ℝ) : EReal)) = (Real.log (1 + Real.exp (-max r (-r))) : EReal) := by
  rw [Ideal.exp_coe]
  unfold Ideal.log1p
  rw [← EReal.coe_one, ← EReal.coe_add, log_pos_coe (by linarith [Real.exp_pos (-max r (-r))])]

theorem soft_ref (r : ℝ) : Ref.s_soft (F := Ideal) (r : EReal) = (sp r : EReal) := by
  have hc : FloatOps.cmpf (F := Ideal) (φ := .f32) .une (r : EReal) (r : EReal) = 0#1 := by
    rw [Ideal.cmpf_def]
    unfold Ideal.cmp
    simp
  unfold Ref.s_soft Ref.w
  simp only [Ideal.subf_def, Ideal.addf_def, Ideal.maximumf_def, Ideal.hostUnary_log1p_def, Ideal.hostUnary_exp_def, Ideal.hostNegf_def,
    Ideal.hostAbsf_def, Ideal.negf_def, Ideal.absf_def, Ideal.ofBits_def, c0, EReal.coe_zero, sub_zero]
  rw [Ref.select_zero hc, ← EReal.coe_neg, ← coe_max, ← EReal.coe_neg, log1p_exp, ← EReal.coe_zero, ← coe_max, ← EReal.coe_add]
  rfl

theorem inv_eq (r : ℝ) : Gather.C0.inv (F := Ideal) (r : EReal) = ((1 / sp r : ℝ) : EReal) := by
  unfold Gather.C0.inv
  simp only [Ideal.subf_def, Ideal.addf_def, Ideal.maximumf_def, Ideal.log1p_def, Ideal.exp_def, Ideal.absf_def, Ideal.ofBits_def, Ideal.divf_def,
    c0, c1, EReal.coe_zero, zero_sub]
  rw [← EReal.coe_neg, ← coe_max, ← EReal.coe_neg, log1p_exp, ← EReal.coe_zero, ← coe_max, ← EReal.coe_add]
  rw [show max r 0 + Real.log (1 + Real.exp (-max r (-r))) = sp r from rfl, Ideal.div_coe (sp_pos r).ne', EReal.coe_one, one_mul]

/-! ## The shape parameter -/

theorem shp_eq (t : EReal) : Ref.s_shp (F := Ideal) (Ref.s_log (F := Ideal) t) = Gather.C1.shp (F := Ideal) t := by
  unfold Ref.s_shp Ref.s_log Gather.C1.shp Ref.w
  simp only [Ideal.addf_def, Ideal.mulf_def, Ideal.hostUnary_log_def, Ideal.log_def, Ideal.ofBits_def, c1, EReal.coe_one, mul_one]

/-- It is a real that is not negative, or infinite. -/
theorem shp_cases (t : EReal) : Gather.C1.shp (F := Ideal) t = ⊤ ∨ ∃ a : ℝ, 0 ≤ a ∧ Gather.C1.shp (F := Ideal) t = (a : EReal) := by
  unfold Gather.C1.shp
  simp only [Ideal.addf_def, Ideal.mulf_def, Ideal.log_def, Ideal.ofBits_def, chalf]
  generalize Ideal.log _ = u
  have hp : (0 : ℝ) < 1 / 2 := by norm_num
  induction u using EReal.rec with
  | bot => exact Or.inl (by rw [EReal.coe_mul_bot_of_pos hp, EReal.bot_mul_bot])
  | top => exact Or.inl (by rw [EReal.coe_mul_top_of_pos hp, EReal.top_mul_top])
  | coe u => exact Or.inr ⟨1 / 2 * u * u, by nlinarith [mul_self_nonneg u], by rw [← EReal.coe_mul, ← EReal.coe_mul]⟩

/-! ## The log-gamma -/

theorem lg_top : Gather.C1.lgm (F := Ideal) (⊤ : EReal) = ⊥ ∧ Ref.s_lg (F := Ideal) (⊤ : EReal) = ⊥ := by
  have ha : ∀ r : ℝ, (⊤ : EReal) + (r : EReal) = ⊤ := fun r => EReal.top_add_coe r
  have hs : (⊤ : EReal) - ((1 / 2 : ℝ) : EReal) = ⊤ := EReal.top_sub_coe _
  have hm : ((⊤ : EReal) * ⊤ - ⊤) = ⊥ := by rw [EReal.top_mul_top]; rfl
  constructor
  · unfold Gather.C1.lgm
    simp only [Ideal.addf_def, Ideal.mulf_def, Ideal.subf_def, Ideal.log_def, Ideal.ofBits_def, c1, c8, chalf, ha, hs, Ideal.log_top, hm,
      EReal.bot_add, EReal.bot_sub]
  · unfold Ref.s_lg Ref.s_stir Ref.s_big Ref.w
    simp only [Ref.s_less, Ref.w, Ideal.addf_def, Ideal.mulf_def, Ideal.subf_def, Ideal.hostUnary_log_def, Ideal.ofBits_def, c1, c8, chalf, ha, hs, Ideal.log_top, hm,
      EReal.bot_add, EReal.bot_sub]

theorem lg_coe (a : ℝ) (h : 0 ≤ a) : Ref.s_lg (F := Ideal) (a : EReal) = Gather.C1.lgm (F := Ideal) (a : EReal) := by
  obtain ⟨k1, h1⟩ := cpi
  obtain ⟨k2, h2⟩ := c12
  obtain ⟨k3, h3⟩ := c360
  obtain ⟨k4, h4⟩ := c1260
  have hz : 0 < a + 1 := by linarith
  generalize hze : a + 1 = z at hz
  have hp : ∀ k : ℝ, 0 ≤ k → 0 < z + k := fun k hk => by linarith
  have e0 := hp 0 (by norm_num)
  have e1 := hp 1 (by norm_num)
  have e2 := hp 2 (by norm_num)
  have e3 := hp 3 (by norm_num)
  have e4 := hp 4 (by norm_num)
  have e5 := hp 5 (by norm_num)
  have e6 := hp 6 (by norm_num)
  have e7 := hp 7 (by norm_num)
  have e8 := hp 8 (by norm_num)
  have p1 := mul_pos hz e1
  have p2 := mul_pos p1 e2
  have p3 := mul_pos p2 e3
  have p4 := mul_pos p3 e4
  have p5 := mul_pos p4 e5
  have p6 := mul_pos p5 e6
  have p7 := mul_pos p6 e7
  unfold Ref.s_lg Ref.s_stir Ref.s_big Ref.w Gather.C1.lgm
  simp only [Ref.s_less, Ref.w, Ideal.addf_def, Ideal.mulf_def, Ideal.subf_def, Ideal.hostUnary_log_def, Ideal.log_def, Ideal.ofBits_def, Ideal.hostDivf_def,
    Ideal.divf_def, c0, c1, c2, c3, c4, c5, c6, c7, c8, chalf, h1, h2, h3, h4, ← EReal.coe_add, hze, Ideal.div_coe e8.ne', ← EReal.coe_mul,
    ← EReal.coe_sub, log_pos_coe e0, log_pos_coe e1, log_pos_coe e2, log_pos_coe e3, log_pos_coe e4, log_pos_coe e5, log_pos_coe e6,
    log_pos_coe e7, log_pos_coe e8, log_pos_coe p7]
  rw [Real.log_mul p6.ne' e7.ne', Real.log_mul p5.ne' e6.ne', Real.log_mul p4.ne' e5.ne', Real.log_mul p3.ne' e4.ne',
    Real.log_mul p2.ne' e3.ne', Real.log_mul p1.ne' e2.ne', Real.log_mul hz.ne' e1.ne', add_zero]
  congr 1
  ring

/-! ## The series -/

/-- The product of the steps. -/
def P (s : ℝ) : List ℝ → ℝ
  | [] => 1
  | k :: ks => P s ks * (s + k)
/-- The nested sum, its denominators cleared. -/
def H (x s : ℝ) : List ℝ → ℝ
  | [] => 1
  | k :: ks => P s ks * (s + k) + x * H x s ks
/-- The sum a term at a time. -/
def S (x s : ℝ) : List ℝ → ℝ → ℝ → ℝ
  | [], _, q => q
  | k :: ks, t, q => S x s ks (t * x * (1 / (s + k))) (q + t * x * (1 / (s + k)))

theorem P_pos {s : ℝ} : ∀ ks : List ℝ, (∀ k ∈ ks, 0 < s + k) → 0 < P s ks
  | [], _ => one_pos
  | k :: ks, h => mul_pos (P_pos ks fun j hj => h j (List.mem_cons_of_mem _ hj)) (h k List.mem_cons_self)

theorem S_eq (x s : ℝ) : ∀ (ks : List ℝ), (∀ k ∈ ks, 0 < s + k) → ∀ t q : ℝ, S x s ks t q = q + t * (H x s ks * (1 / P s ks) - 1)
  | [], _, t, q => by simp [S, H, P]
  | k :: ks, h, t, q => by
    have hk := (h k List.mem_cons_self).ne'
    have hP := (P_pos ks fun j hj => h j (List.mem_cons_of_mem _ hj)).ne'
    rw [S, S_eq x s ks (fun j hj => h j (List.mem_cons_of_mem _ hj)), H, P]
    field_simp
    ring

abbrev steps : List ℝ := [1, 2, 3, 4, 5, 6, 7, 8, 9, 10]

theorem steps_pos {s : ℝ} (h : 0 ≤ s) : ∀ k ∈ steps, 0 < s + k := by
  intro k hk
  have : 0 < k := by
    simp only [List.mem_cons, List.not_mem_nil, or_false] at hk
    rcases hk with h | h | h | h | h | h | h | h | h | h <;> subst h <;> norm_num
  linarith

theorem sum_ref (x s : ℝ) (h : 0 ≤ s) :
    Ref.s_sum (F := Ideal) (x : EReal) (s : EReal)
      [0x3F800000#32, 0x40000000#32, 0x40400000#32, 0x40800000#32, 0x40A00000#32, 0x40C00000#32, 0x40E00000#32, 0x41000000#32,
        0x41100000#32, 0x41200000#32] (Ref.w (F := Ideal) 0x3F800000#32) (Ref.w (F := Ideal) 0x3F800000#32)
      = ((H x s steps * (1 / P s steps) : ℝ) : EReal) := by
  have hp := steps_pos h
  have hd : ∀ k ∈ steps, ∀ v : EReal, Ideal.div v ((s + k : ℝ) : EReal) = v * ((1 / (s + k) : ℝ) : EReal) := fun k hk v => Ideal.div_coe (hp k hk).ne' v
  rw [show H x s steps * (1 / P s steps) = S x s steps 1 1 by rw [S_eq x s steps hp]; ring]
  simp only [Ref.s_sum, Ref.s_term, Ref.w, S, Ideal.addf_def, Ideal.mulf_def, Ideal.hostDivf_def, Ideal.ofBits_def, c1, c2, c3, c4, c5, c6, c7, c8, c9, c10,
    ← EReal.coe_add, hd 1 (by simp), hd 2 (by simp), hd 3 (by simp), hd 4 (by simp), hd 5 (by simp), hd 6 (by simp), hd 7 (by simp), hd 8 (by simp),
    hd 9 (by simp), hd 10 (by simp), ← EReal.coe_mul]

/-! ## The factor -/

theorem fac_eq (iv b : ℝ) (a lg : EReal) (ha : a = ⊤ ∨ ∃ r : ℝ, 0 ≤ r ∧ a = (r : EReal)) :
    Gather.C3.fac (F := Ideal) (iv : EReal) a lg (b : EReal)
      = Ideal.exp (a * Ideal.log ((b : EReal) * (iv : EReal) + Ideal.ofBits .f32 0x3089705F#32) - ((b : EReal) * (iv : EReal) + Ideal.ofBits .f32 0x3089705F#32) - lg)
        * Ref.s_sum (F := Ideal) ((b : EReal) * (iv : EReal) + Ideal.ofBits .f32 0x3089705F#32) (min a (Ideal.ofBits .f32 0x41C00000#32))
      [0x3F800000#32, 0x40000000#32, 0x40400000#32, 0x40800000#32, 0x40A00000#32, 0x40C00000#32, 0x40E00000#32, 0x41000000#32,
        0x41100000#32, 0x41200000#32] (Ref.w (F := Ideal) 0x3F800000#32) (Ref.w (F := Ideal) 0x3F800000#32) := by
  obtain ⟨e, he⟩ := ceps
  obtain ⟨s, hs0, hs⟩ : ∃ s : ℝ, 0 ≤ s ∧ min a ((24 : ℝ) : EReal) = (s : EReal) := by
    rcases ha with h | ⟨r, hr, h⟩
    · exact ⟨24, by norm_num, by rw [h]; exact min_eq_right le_top⟩
    · exact ⟨min r 24, le_min hr (by norm_num), by rw [h, coe_min]⟩
  unfold Gather.C3.fac
  simp only [Ideal.addf_def, Ideal.mulf_def, Ideal.subf_def, Ideal.minimumf_def, Ideal.log_def, Ideal.exp_def, Ideal.ofBits_def, Ideal.divf_def,
    c24, he, hs, ← EReal.coe_mul, ← EReal.coe_add]
  generalize hx : b * iv + e = x
  rw [sum_ref x s hs0]
  generalize Ideal.exp _ = pf
  have hP := P_pos steps (steps_pos hs0)
  simp only [c1, c2, c3, c4, c5, c6, c7, c8, c9, c10, ← EReal.coe_mul, ← EReal.coe_add]
  have hPe : P s steps = 1 * (s + 10) * (s + 9) * (s + 8) * (s + 7) * (s + 6) * (s + 5) * (s + 4) * (s + 3) * (s + 2) * (s + 1) := rfl
  rw [← hPe, Ideal.div_coe hP.ne', mul_assoc, ← EReal.coe_mul]
  rfl

/-- An element: the kernel's factor is the reference's value. -/
theorem element (g b : ℝ) (t : EReal) :
    Gather.C3.fac (F := Ideal) (Gather.C0.inv (F := Ideal) (g : EReal)) (Gather.C1.shp (F := Ideal) t)
        (Gather.C1.lgm (F := Ideal) (Gather.C1.shp (F := Ideal) t)) (b : EReal)
      = Ref.s_ref (F := Ideal) (g : EReal) t (b : EReal) := by
  have hlg : Ref.s_lg (F := Ideal) (Gather.C1.shp (F := Ideal) t) = Gather.C1.lgm (F := Ideal) (Gather.C1.shp (F := Ideal) t) := by
    rcases shp_cases t with h | ⟨a, ha, h⟩
    · rw [h, lg_top.1, lg_top.2]
    · rw [h, lg_coe a ha]
  rw [inv_eq, fac_eq _ _ _ _ (shp_cases t)]
  unfold Ref.s_ref Ref.s_inc
  rw [shp_eq, hlg, soft_ref]
  unfold Ref.s_arg
  simp only [Ref.w, Ideal.addf_def, Ideal.mulf_def, Ideal.subf_def, Ideal.minimumf_def, Ideal.hostUnary_log_def, Ideal.hostUnary_exp_def, Ideal.ofBits_def,
    Ideal.hostDivf_def, Ideal.div_coe (sp_pos g).ne']

end Cert.Proof.Algebra

end
-- ==== Proof.Same.lean ====
/-
  The two programs have the same bodies: on bits, the kernel's table is the table of the kernel it is
  compared with over the extended reals.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

instance : ∀ e, Nonempty (Elt Bits e) := inferInstance

theorem defs₀_eq0 (t s) : Cert.Kernel.defs₀ (F := Bits) .tc 0 (t, s) = Cert.KernelIdeal.defs₀ (F := Bits) .tc 0 (t, s) := rfl

theorem defs₀_eq1 (t s) : Cert.Kernel.defs₀ (F := Bits) .tc 1 (t, s) = Cert.KernelIdeal.defs₀ (F := Bits) .tc 1 (t, s) := rfl

theorem defs₀_eq3 (t s) : Cert.Kernel.defs₀ (F := Bits) .tc 3 (t, s) = Cert.KernelIdeal.defs₀ (F := Bits) .tc 3 (t, s) := rfl

theorem defs₀_eq2 (c s a) :
    Cert.Kernel.defs₀ (F := Bits) (.scVector c s) 2 a = Cert.KernelIdeal.defs₀ (F := Bits) (.scVector c s) 2 a := rfl

set_option maxHeartbeats 1000000 in
/-- The kernels' bodies are the same, processor by processor and label by label. -/
theorem defs₀_eq : Cert.Kernel.defs₀ (F := Bits) = Cert.KernelIdeal.defs₀ (F := Bits) := by
  funext p l a
  match p, l, a with
  | .tc, 0, (_, _) => exact defs₀_eq0 _ _
  | .tc, 1, (_, _) => exact defs₀_eq1 _ _
  | .tc, 2, _ => exact rfl
  | .tc, 3, (_, _) => exact defs₀_eq3 _ _
  | .scScalar _, 0, _ => exact rfl
  | .scScalar _, 1, _ => exact rfl
  | .scScalar _, 2, _ => exact rfl
  | .scScalar _, 3, _ => exact rfl
  | .scVector _ _, 0, _ => exact rfl
  | .scVector _ _, 1, _ => exact rfl
  | .scVector _ _, 2, _ => exact defs₀_eq2 _ _ _
  | .scVector _ _, 3, _ => exact rfl

/-- So are the tables the pipelines and the SparseCore launches make of them. -/
theorem defs_eq : Cert.Kernel.defs (F := Bits) = Cert.KernelIdeal.defs (F := Bits) :=
  congrArg (fun d => (Cert.KernelIdeal.sc (F := Bits)).defs (Pipeline.defs Cert.KernelIdeal.pcfgs d)) defs₀_eq

end Cert.Proof

end
-- ==== Proof.lean ====
/-
  The claims: the program runs from any arguments whose indices are rows of the table, leaves the arguments as they were and
  its semaphores at zero, and at finite behaviours and rates gives over the extended reals what the reference gives.
-/
module

public import proofs.«01_k».proof.Defs
public import proofs.«01_k».proof.Proof.Algebra
public import proofs.«01_k».proof.Proof.Same
public import proofs.«01_k».proof.Proof.Gen.Kernel
public import proofs.«01_k».proof.Proof.Gen.KernelIdeal
public import proofs.«01_k».proof.Proof.Gen.ReferenceIdeal
public import proofs.«01_k».proof.Proof.Gen.Pre_in_rows
public import proofs.«01_k».proof.Proof.Gen.Pre_in_rows_finite
public import Idealize.ShloMosaic.Lib.ReduceAll

@[expose] public section

noncomputable section

namespace Cert.Proof

open Idealize.ShloMosaic Idealize.SL.Sem
open Idealize.ShloMosaic.StableHlo (after launchContents)

/-! ## What the preconditions say -/

section Pre

variable {F : FTy → Type} [FloatOps F]

theorem rows_of_pre (m : (ℓ : Loc Cert.KernelIdeal.nD Cert.KernelIdeal.τ Cert.KernelIdeal.sig) → Buf (Elt F) ℓ)
    (h : ∀ c : Dev Cert.KernelIdeal.nD, Cert.Pre_in_rows.fn (F := F) (Gather.A0 m c) (Gather.A1 m c) (Gather.A2 m c) (Gather.A3 m c) = fun _ => 1#1)
    (c : Dev Cert.KernelIdeal.nD) (x) : (Gather.A0 m c x).toNat ≤ 100000 :=
  Gather.word_in_rows _ (congrFun (h c) x)

theorem and_one {a b : BitVec 1} : IntOp.andi a b = 1#1 → a = 1#1 ∧ b = 1#1 := by revert a b; decide

instance : Subsingleton Cert.Pre_in_rows_finite.S_.Idx := ⟨fun a b => funext fun i => i.elim0⟩

/-- A value whose magnitude is below infinity is a real. -/
theorem finite_of (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  rw [Ideal.cmpf_def, Ideal.hostAbsf_def, Ideal.absf_def, Ideal.ofBits_def, htop] at h
  unfold Ideal.cmp at h
  induction x using EReal.rec with
  | bot => simp at h
  | top => simp at h
  | coe r => exact ⟨r, rfl⟩

theorem parts_of_pre (P : IVec Cert.Pre_in_rows_finite.S4096x200 32) (t b : FVec Ideal Cert.Pre_in_rows_finite.S4096x200 .f32)
    (T : FVec Ideal Cert.Pre_in_rows_finite.S100001x64 .f32) (h : Cert.Pre_in_rows_finite.fn (F := Ideal) P t b T = fun _ => 1#1) :
    (∀ x, (P x).toNat ≤ 100000) ∧ (∀ x, ∃ r : ℝ, b x = (r : EReal)) ∧ ∀ x, ∃ r : ℝ, T x = (r : EReal) := by
  have h0 := congrFun h (fun i => i.elim0)
  unfold Cert.Pre_in_rows_finite.fn at h0
  obtain ⟨h12, h3⟩ := and_one h0
  obtain ⟨h1, h2⟩ := and_one h12
  exact ⟨fun x => Gather.word_in_rows _ (Host.reduce_andi_all _ _ _ _ _ h1 x), fun x => finite_of _ (Host.reduce_andi_all _ _ _ _ _ h2 x),
    fun x => finite_of _ (Host.reduce_andi_all _ _ _ _ _ h3 x)⟩

end Pre

/-! ## The runs -/

section Runs

variable {F : FTy → Type} [FloatOps F] [∀ e, Nonempty (Elt F e)]

theorem kernel_run (m : (ℓ : Loc Cert.KernelIdeal.nD Cert.KernelIdeal.τ Cert.KernelIdeal.sig) → Buf (Elt F) ℓ) (ρ : Dev Cert.KernelIdeal.nD → PrngReg)
    (hrow : ∀ d x, (Gather.A0 m d x).toNat ≤ 100000) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_v10) = Gather.val (Gather.A0 m c) (Gather.A1 m c) (Gather.A2 m c) (Gather.A3 m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono
    (fun _ h => ⟨fun c => ⟨(h.1 c Cert.KernelIdeal.main_v10 rfl).trans (Gather.out_at m c (hrow c)),
      (h.1 c Cert.KernelIdeal.main_arg0 rfl).trans (Gather.W9_keep m c _ (by decide)),
      (h.1 c Cert.KernelIdeal.main_arg1 rfl).trans (Gather.W9_keep m c _ (by decide)),
      (h.1 c Cert.KernelIdeal.main_arg2 rfl).trans (Gather.W9_keep m c _ (by decide)),
      (h.1 c Cert.KernelIdeal.main_arg3 rfl).trans (Gather.W9_keep m c _ (by decide))⟩, h.2⟩)
    (Gather.run_main m ρ (Gather.inRows_of m hrow))

theorem reference_run (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r => (∀ c : Dev Cert.ReferenceIdeal.nD,
      r.2.mem ((c.tc : Thread Cert.ReferenceIdeal.nD Cert.ReferenceIdeal.τ).loc Cert.ReferenceIdeal.main_v145) = after Ref.ops (launchContents m c) (Proc.devRef .tc Cert.ReferenceIdeal.main_v145)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono
    (fun r h => ⟨fun c => ⟨h c Cert.ReferenceIdeal.main_v145,
      (h c Cert.ReferenceIdeal.main_arg0).trans (Ref.keep _ (by decide)), (h c Cert.ReferenceIdeal.main_arg1).trans (Ref.keep _ (by decide)),
      (h c Cert.ReferenceIdeal.main_arg2).trans (Ref.keep _ (by decide)), (h c Cert.ReferenceIdeal.main_arg3).trans (Ref.keep _ (by decide))⟩,
      sem_eq_zero_of_no_sems (by decide) r.2⟩)
    (Ref.run m ρ)

end Runs

/-! ## The frames -/

instance : ∀ e, Nonempty (Elt Ideal e) := inferInstance

theorem frame_kernel : Cert.quiescent_Kernel := fun m ρ hpre =>
  (congrArg (fun D => θ_run D (Cert.KernelIdeal.threads (F := Bits)) ⟨m, fun _ => 0, ρ⟩ _) defs_eq).mpr
    ((θ_run Cert.KernelIdeal.defs _ _).mono (fun _ h => ⟨fun c => (h.1 c).2, h.2⟩) (kernel_run (F := Bits) m ρ (rows_of_pre m hpre)))

theorem frame_ideal : Cert.quiescent_KernelIdeal := fun m ρ hpre =>
  (θ_run Cert.KernelIdeal.defs _ _).mono (fun _ h => ⟨fun c => (h.1 c).2, h.2⟩) (kernel_run (F := Ideal) m ρ (rows_of_pre m hpre))

theorem frame_ideal_finite : Cert.quiescent_KernelIdeal_pre_in_rows_finite := fun m ρ hpre =>
  (θ_run Cert.KernelIdeal.defs _ _).mono (fun _ h => ⟨fun c => (h.1 c).2, h.2⟩)
    (kernel_run (F := Ideal) m ρ fun d => (parts_of_pre _ _ _ _ (hpre d)).1)

theorem frame_reference : Cert.quiescent_ReferenceIdeal := fun m ρ _ =>
  (θ_run Cert.ReferenceIdeal.defs _ _).mono (fun _ h => ⟨fun c => (h.1 c).2, h.2⟩) (reference_run (F := Ideal) m ρ)

theorem frame_reference_finite : Cert.quiescent_ReferenceIdeal_pre_in_rows_finite := fun m ρ _ => frame_reference m ρ trivial

/-! ## The values -/

/-- The reference's array is the kernel's, at indices that are rows and finite behaviours and table. -/
theorem values (V : Valuation Cert.ReferenceIdeal.τ Cert.ReferenceIdeal.sig (Elt Ideal)) (P : Cert.KernelIdeal.S4096x200.Idx → BitVec 32)
    (t b : Cert.KernelIdeal.S4096x200.Idx → EReal) (T : Cert.KernelIdeal.S100001x64.Idx → EReal)
    (h0 : V (Proc.devRef .tc Cert.ReferenceIdeal.main_arg0) = P) (h1 : V (Proc.devRef .tc Cert.ReferenceIdeal.main_arg1) = t)
    (h2 : V (Proc.devRef .tc Cert.ReferenceIdeal.main_arg2) = b) (h3 : V (Proc.devRef .tc Cert.ReferenceIdeal.main_arg3) = T)
    (hP : ∀ x, (P x).toNat ≤ 100000) (hb : ∀ x, ∃ r : ℝ, b x = (r : EReal)) (hT : ∀ x, ∃ r : ℝ, T x = (r : EReal)) :
    after Ref.ops V (Proc.devRef .tc Cert.ReferenceIdeal.main_v145) = Gather.val (F := Ideal) P t b T := by
  subst h0 h1 h2 h3
  funext (y : Cert.ReferenceIdeal.S4096x200x64.Idx)
  refine (Ref.out_at V hP y).trans ?_
  obtain ⟨g, hg⟩ := hT (ix2 (Gather.rowT (V (Proc.devRef .tc Cert.ReferenceIdeal.main_arg0) (ix2 (y 0) (y 1)))) (y 2))
  obtain ⟨r, hr⟩ := hb (ix2 (y 0) (y 1))
  have e := Algebra.element g r (V (Proc.devRef .tc Cert.ReferenceIdeal.main_arg1) (ix2 (y 0) (y 1)))
  rw [← hg, ← hr] at e
  exact e.symm

theorem algebraic : Cert.algebraic_KernelIdeal_ReferenceIdeal_pre_in_rows_finite := fun m ρ m' ρ' hpre hargs =>
  ⟨fun c => Gather.val (F := Ideal) (Gather.A0 m c) (Gather.A1 m c) (Gather.A2 m c) (Gather.A3 m c),
    (θ_run Cert.KernelIdeal.defs _ _).mono (fun _ h => h.1) (kernel_run (F := Ideal) m ρ fun d => (parts_of_pre _ _ _ _ (hpre d)).1),
    (θ_run Cert.ReferenceIdeal.defs _ _).mono
      (fun _ h c => ⟨(h.1 c).1.trans (values _ _ _ _ _ (hargs c).1 (hargs c).2.1 (hargs c).2.2.1 (hargs c).2.2.2
        (parts_of_pre _ _ _ _ (hpre c)).1 (parts_of_pre _ _ _ _ (hpre c)).2.1 (parts_of_pre _ _ _ _ (hpre c)).2.2), (h.1 c).2⟩)
      (reference_run (F := Ideal) m' ρ')⟩

theorem claim : Cert.Claim :=
  ⟨Cert.Kernel.Gen.facts, Cert.KernelIdeal.Gen.facts, Cert.ReferenceIdeal.Gen.facts, Cert.Pre_in_rows.Gen.facts, Cert.Pre_in_rows_finite.Gen.facts,
    frame_kernel, frame_ideal, frame_ideal_finite, frame_reference, frame_reference_finite, trivial, algebraic⟩

end Cert.Proof

end
